-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_qmax" .f32 0x3E124925#32 ((1 / 7 : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  main_v8
-- ==== Kernel.lean ====
abbrev S1x16x2048x64 : Shape := ⟨4, ![1, 16, 2048, 64]⟩
abbrev S1x16x64x2048 : Shape := ⟨4, ![1, 16, 64, 2048]⟩
abbrev S16x2048 : Shape := ⟨2, ![16, 2048]⟩
abbrev S64x16 : Shape := ⟨2, ![64, 16]⟩
abbrev S16x64x2048 : Shape := ⟨3, ![16, 64, 2048]⟩
abbrev S1x2048 : Shape := ⟨2, ![1, 2048]⟩
abbrev S1x64x2048 : Shape := ⟨3, ![1, 64, 2048]⟩
abbrev S64x2048 : Shape := ⟨2, ![64, 2048]⟩
abbrev S2048 : Shape := ⟨1, ![2048]⟩
abbrev S1x64 : Shape := ⟨2, ![1, 64]⟩
abbrev S16x64 : Shape := ⟨2, ![16, 64]⟩
abbrev S16 : Shape := ⟨1, ![16]⟩
abbrev S16x1 : Shape := ⟨2, ![16, 1]⟩
abbrev S16x16 : Shape := ⟨2, ![16, 16]⟩
abbrev S1x2x64x2048 : Shape := ⟨4, ![1, 2, 64, 2048]⟩
abbrev S1x1x64x2048 : Shape := ⟨4, ![1, 1, 64, 2048]⟩
abbrev S64x1 : Shape := ⟨2, ![64, 1]⟩
abbrev S64 : Shape := ⟨1, ![64]⟩
abbrev S65x2048 : Shape := ⟨2, ![65, 2048]⟩
abbrev S1x1x64x512 : Shape := ⟨4, ![1, 1, 64, 512]⟩
abbrev S64x512 : Shape := ⟨2, ![64, 512]⟩
abbrev S512x2048 : Shape := ⟨2, ![512, 2048]⟩
abbrev S65x512 : Shape := ⟨2, ![65, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x64x2048, .f32⟩
  | .hbm, ⟨4, _⟩ => ⟨S1x16x64x2048, .f32⟩
  | .hbm, ⟨5, _⟩ => ⟨S1x16x64x2048, .f32⟩
  | .hbm, ⟨6, _⟩ => ⟨S16x2048, .f32⟩
  | .hbm, ⟨7, _⟩ => ⟨S64x16, .f32⟩
  | .hbm, ⟨8, _⟩ => ⟨S1x16x64x2048, .f32⟩
  | .hbm, ⟨9, _⟩ => ⟨S1x16x2048x64, .f32⟩
  | .local _ .vmem, ⟨0, _⟩ => ⟨S1x16x64x2048, .f32⟩
  | .local _ .vmem, ⟨1, _⟩ => ⟨S1x16x64x2048, .f32⟩
  | .local _ .vmem, ⟨2, _⟩ => ⟨S16x2048, .f32⟩
  | .local _ .vmem, ⟨3, _⟩ => ⟨S64x16, .f32⟩
  | .local _ .vmem, ⟨4, _⟩ => ⟨S1x2x64x2048, .f32⟩
  | .local _ .vmem, ⟨5, _⟩ => ⟨S1x2x64x2048, .f32⟩
  | .local _ .vmem, ⟨6, _⟩ => ⟨S1x2x64x2048, .f32⟩
  | .local _ .vmem, ⟨7, _⟩ => ⟨S1x2x64x2048, .f32⟩
  | .local _ .vmem, ⟨8, _⟩ => ⟨S1x2x64x2048, .f32⟩
  | .local _ .vmem, ⟨9, _⟩ => ⟨S1x2x64x2048, .f32⟩
  | .local _ .vmem, ⟨10, _⟩ => ⟨S16x2048, .f32⟩
  | .local _ .vmem, ⟨11, _⟩ => ⟨S64x16, .f32⟩
  | .local _ .vmem, ⟨12, _⟩ => ⟨S1x2x64x2048, .f32⟩
  | .local _ .vmem, ⟨13, _⟩ => ⟨S1x2x64x2048, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v152 : BitVec 32 := Scalar.addi c0_i32 c32_i32
  let c1_i32 : BitVec 32 := 1#32
  ⟨c0_i32, v152, c1_i32⟩
@[reducible] def k0_t2_loop : Scf.Loop 32 :=
  let c0_i32_39 : BitVec 32 := 0#32
  let c8_i32 : BitVec 32 := 8#32
  let v155 : BitVec 32 := Scalar.addi c0_i32_39 c8_i32
  let c1_i32_40 : BitVec 32 := 1#32
  ⟨c0_i32_39, v155, c1_i32_40⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16x64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16x64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_off1 (i : grid1.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v6 : Index := Scalar.indexCast v1
  let c0_7 : Index := 0#32
  ![v6.toNat, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x2x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x2x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "inv_qmax" => some ((1 / 7 : ℝ) : EReal)
  | _ => none
-- ==== ReferenceIdeal.lean ====
abbrev S1x16x2048x64 : Shape := ⟨4, ![1, 16, 2048, 64]⟩
abbrev S_ : Shape := ⟨0, ![]⟩
abbrev S1x16x2048 : Shape := ⟨3, ![1, 16, 2048]⟩
abbrev S1x16x32 : Shape := ⟨3, ![1, 16, 32]⟩
abbrev S1x16x32x1 : Shape := ⟨4, ![1, 16, 32, 1]⟩
abbrev S16x32x1 : Shape := ⟨3, ![16, 32, 1]⟩
abbrev S1 : Shape := ⟨1, ![1]⟩
abbrev S1x1x1 : Shape := ⟨3, ![1, 1, 1]⟩
abbrev S16x32 : Shape := ⟨2, ![16, 32]⟩
abbrev S1x16x32x64 : Shape := ⟨4, ![1, 16, 32, 64]⟩
abbrev S1x1x1x2048 : Shape := ⟨4, ![1, 1, 1, 2048]⟩
abbrev S1x16x32x2048 : Shape := ⟨4, ![1, 16, 32, 2048]⟩
abbrev S1x16x2048x1 : Shape := ⟨4, ![1, 16, 2048, 1]⟩
abbrev S1x16x64 : Shape := ⟨3, ![1, 16, 64]⟩
abbrev S1x16x8 : Shape := ⟨3, ![1, 16, 8]⟩
abbrev S1x16x1x8 : Shape := ⟨4, ![1, 16, 1, 8]⟩
abbrev S16x8x1 : Shape := ⟨3, ![16, 8, 1]⟩
abbrev S16x8 : Shape := ⟨2, ![16, 8]⟩
abbrev S1x16x2048x8 : Shape := ⟨4, ![1, 16, 2048, 8]⟩
abbrev S1x16x8x1 : Shape := ⟨4, ![1, 16, 8, 1]⟩
abbrev S1x1x1x64 : Shape := ⟨4, ![1, 1, 1, 64]⟩
abbrev S1x16x8x64 : Shape := ⟨4, ![1, 16, 8, 64]⟩
abbrev S1x16x1x64 : Shape := ⟨4, ![1, 16, 1, 64]⟩
abbrev S1x16x4096x64 : Shape := ⟨4, ![1, 16, 4096, 64]⟩
abbrev S1x16x2048x2048 : Shape := ⟨4, ![1, 16, 2048, 2048]⟩

abbrev nBuf : Space → Nat
  | .hbm => 176
  | .vmem => 0
  | .smem => 0
  | _ => 0

abbrev hbmTy0_0 (i : Nat) : BufTy := match i % 128 with
  | 0 => ⟨S1x16x2048x64, .f32⟩
  | 1 => ⟨S1x16x2048x64, .f32⟩
  | 2 => ⟨S1x16x2048x64, .f32⟩
  | 3 => ⟨S1x16x2048x64, .f32⟩
  | 4 => ⟨S_, .f32⟩
  | 5 => ⟨S1x16x2048, .f32⟩
  | 6 => ⟨S1x16x32, .f32⟩
  | 7 => ⟨S1x16x32, .i32⟩
  | 8 => ⟨S1x16x32x1, .i32⟩
  | 9 => ⟨S_, .i32⟩
  | 10 => ⟨S1x16x32x1, .i32⟩
  | 11 => ⟨S1x16x32x1, .i1⟩
  | 12 => ⟨S_, .i32⟩
  | 13 => ⟨S1x16x32x1, .i32⟩
  | 14 => ⟨S1x16x32x1, .i32⟩
  | 15 => ⟨S1x16x32x1, .i32⟩
  | 16 => ⟨S16x32x1, .i32⟩
  | 17 => ⟨S1, .i32⟩
  | 18 => ⟨S_, .i32⟩
  | 19 => ⟨S16x32x1, .i32⟩
  | 20 => ⟨S16x32x1, .i1⟩
  | 21 => ⟨S1x1x1, .i32⟩
  | 22 => ⟨S16x32x1, .i32⟩
  | 23 => ⟨S16x32x1, .i1⟩
  | 24 => ⟨S16x32x1, .i1⟩
  | 25 => ⟨S_, .i1⟩
  | 26 => ⟨S16x32, .i1⟩
  | 27 => ⟨S1x16x32x64, .f32⟩
  | 28 => ⟨S1x16x32x64, .i1⟩
  | 29 => ⟨S_, .f32⟩
  | 30 => ⟨S1x16x32x64, .f32⟩
  | 31 => ⟨S1x16x32x64, .f32⟩
  | 32 => ⟨S1x16x32x1, .i32⟩
  | 33 => ⟨S1x1x1x2048, .i32⟩
  | 34 => ⟨S1x16x32x2048, .i32⟩
  | 35 => ⟨S1x16x32x2048, .i32⟩
  | 36 => ⟨S1x16x32x2048, .i1⟩
  | 37 => ⟨S1x16x32x2048, .f32⟩
  | 38 => ⟨S_, .f32⟩
  | 39 => ⟨S1x16x2048, .f32⟩
  | 40 => ⟨S_, .f32⟩
  | 41 => ⟨S1x16x2048, .f32⟩
  | 42 => ⟨S1x16x2048, .f32⟩
  | 43 => ⟨S1x16x2048x1, .f32⟩
  | 44 => ⟨S1x16x2048x64, .f32⟩
  | 45 => ⟨S1x16x2048x64, .f32⟩
  | 46 => ⟨S1x16x2048x64, .f32⟩
  | 47 => ⟨S_, .f32⟩
  | 48 => ⟨S1x16x64, .f32⟩
  | 49 => ⟨S1x16x8, .f32⟩
  | 50 => ⟨S1x16x8, .i32⟩
  | 51 => ⟨S1x16x1x8, .i32⟩
  | 52 => ⟨S_, .i32⟩
  | 53 => ⟨S1x16x1x8, .i32⟩
  | 54 => ⟨S1x16x1x8, .i1⟩
  | 55 => ⟨S_, .i32⟩
  | 56 => ⟨S1x16x1x8, .i32⟩
  | 57 => ⟨S1x16x1x8, .i32⟩
  | 58 => ⟨S1x16x1x8, .i32⟩
  | 59 => ⟨S16x8x1, .i32⟩
  | 60 => ⟨S1, .i32⟩
  | 61 => ⟨S_, .i32⟩
  | 62 => ⟨S16x8x1, .i32⟩
  | 63 => ⟨S16x8x1, .i1⟩
  | 64 => ⟨S1x1x1, .i32⟩
  | 65 => ⟨S16x8x1, .i32⟩
  | 66 => ⟨S16x8x1, .i1⟩
  | 67 => ⟨S16x8x1, .i1⟩
  | 68 => ⟨S_, .i1⟩
  | 69 => ⟨S16x8, .i1⟩
  | 70 => ⟨S1x16x2048x8, .f32⟩
  | 71 => ⟨S1x16x2048x8, .i1⟩
  | 72 => ⟨S_, .f32⟩
  | 73 => ⟨S1x16x2048x8, .f32⟩
  | 74 => ⟨S1x16x2048x8, .f32⟩
  | 75 => ⟨S1x16x8x1, .i32⟩
  | 76 => ⟨S1x1x1x64, .i32⟩
  | 77 => ⟨S1x16x8x64, .i32⟩
  | 78 => ⟨S1x16x8x64, .i32⟩
  | 79 => ⟨S1x16x8x64, .i1⟩
  | 80 => ⟨S1x16x8x64, .f32⟩
  | 81 => ⟨S_, .f32⟩
  | 82 => ⟨S1x16x64, .f32⟩
  | 83 => ⟨S_, .f32⟩
  | 84 => ⟨S1x16x64, .f32⟩
  | 85 => ⟨S1x16x64, .f32⟩
  | 86 => ⟨S1x16x1x64, .f32⟩
  | 87 => ⟨S1x16x2048x64, .f32⟩
  | 88 => ⟨S1x16x2048x64, .f32⟩
  | 89 => ⟨S1x16x2048x64, .f32⟩
  | 90 => ⟨S_, .f32⟩
  | 91 => ⟨S1x16x64, .f32⟩
  | 92 => ⟨S1x16x1x64, .f32⟩
  | 93 => ⟨S_, .f32⟩
  | 94 => ⟨S1x16x1x64, .f32⟩
  | 95 => ⟨S1x16x1x64, .f32⟩
  | 96 => ⟨S1x16x2048x64, .f32⟩
  | 97 => ⟨S_, .f32⟩
  | 98 => ⟨S1x16x2048, .f32⟩
  | 99 => ⟨S1x16x2048x1, .f32⟩
  | 100 => ⟨S_, .f32⟩
  | 101 => ⟨S1x16x2048x1, .f32⟩
  | 102 => ⟨S1x16x2048x1, .f32⟩
  | 103 => ⟨S1x16x2048x64, .f32⟩
  | 104 => ⟨S1x16x2048x64, .f32⟩
  | 105 => ⟨S_, .f32⟩
  | 106 => ⟨S1x16x2048x64, .f32⟩
  | 107 => ⟨S1x16x2048x64, .f32⟩
  | 108 => ⟨S1x16x2048x64, .f32⟩
  | 109 => ⟨S_, .f32⟩
  | 110 => ⟨S_, .f32⟩
  | 111 => ⟨S_, .f32⟩
  | 112 => ⟨S1x16x2048x64, .f32⟩
  | 113 => ⟨S1x16x2048x64, .f32⟩
  | 114 => ⟨S_, .f32⟩
  | 115 => ⟨S1x16x2048x64, .f32⟩
  | 116 => ⟨S1x16x2048x64, .f32⟩
  | 117 => ⟨S1x16x2048x64, .f32⟩
  | 118 => ⟨S1x16x2048x64, .f32⟩
  | 119 => ⟨S_, .f32⟩
  | 120 => ⟨S1x16x2048x64, .f32⟩
  | 121 => ⟨S1x16x2048x64, .f32⟩
  | 122 => ⟨S1x16x2048x64, .f32⟩
  | 123 => ⟨S_, .f32⟩
  | 124 => ⟨S_, .f32⟩
  | 125 => ⟨S_, .f32⟩
  | 126 => ⟨S1x16x2048x64, .f32⟩
  | 127 => ⟨S1x16x2048x64, .f32⟩
  | _ => ⟨S1x16x2048x64, .f32⟩

abbrev hbmTy0_1 (i : Nat) : BufTy := match i % 128 with
  | 0 => ⟨S_, .f32⟩
  | 1 => ⟨S1x16x2048x64, .f32⟩
  | 2 => ⟨S1x16x2048x64, .f32⟩
  | 3 => ⟨S_, .f32⟩
  | 4 => ⟨S1x16x4096x64, .f32⟩
  | 5 => ⟨S_, .i32⟩
  | 6 => ⟨S1, .i32⟩
  | 7 => ⟨S1x16x4096x64, .f32⟩
  | 8 => ⟨S_, .f32⟩
  | 9 => ⟨S1x16x4096x64, .f32⟩
  | 10 => ⟨S_, .i32⟩
  | 11 => ⟨S1, .i32⟩
  | 12 => ⟨S1x16x4096x64, .f32⟩
  | 13 => ⟨S1x16x2048x64, .f32⟩
  | 14 => ⟨S1x16x2048x64, .f32⟩
  | 15 => ⟨S_, .f32⟩
  | 16 => ⟨S1x16x2048x64, .f32⟩
  | 17 => ⟨S1x16x2048x64, .f32⟩
  | 18 => ⟨S1x16x2048x64, .f32⟩
  | 19 => ⟨S1x16x2048x64, .f32⟩
  | 20 => ⟨S1x16x2048x64, .f32⟩
  | 21 => ⟨S1x16x2048x64, .f32⟩
  | 22 => ⟨S_, .f32⟩
  | 23 => ⟨S1x16x2048x64, .f32⟩
  | 24 => ⟨S1x16x2048x64, .f32⟩
  | 25 => ⟨S1x16x2048x64, .f32⟩
  | 26 => ⟨S1x16x2048x64, .f32⟩
  | 27 => ⟨S1x16x2048x64, .f32⟩
  | 28 => ⟨S1x16x2048x64, .f32⟩
  | 29 => ⟨S1x16x2048x2048, .f32⟩
  | 30 => ⟨S_, .f32⟩
  | 31 => ⟨S1x16x2048x2048, .f32⟩
  | 32 => ⟨S1x16x2048x2048, .f32⟩
  | 33 => ⟨S_, .f32⟩
  | 34 => ⟨S1x16x2048, .f32⟩
  | 35 => ⟨S_, .f32⟩
  | 36 => ⟨S1x16x2048, .f32⟩
  | 37 => ⟨S1x16x2048, .f32⟩
  | 38 => ⟨S1x16x2048x1, .f32⟩
  | 39 => ⟨S1x16x2048x2048, .f32⟩
  | 40 => ⟨S1x16x2048x2048, .f32⟩
  | 41 => ⟨S1x16x2048x2048, .f32⟩
  | 42 => ⟨S_, .f32⟩
  | 43 => ⟨S1x16x2048, .f32⟩
  | 44 => ⟨S1x16x2048x1, .f32⟩
  | 45 => ⟨S1x16x2048x2048, .f32⟩
  | 46 => ⟨S1x16x2048x2048, .f32⟩
  | 47 => ⟨S1x16x2048x64, .f32⟩
  | _ => ⟨S1x16x2048x64, .f32⟩

abbrev hbmTy (i : Nat) : BufTy := match i / 128 with
  | 0 => hbmTy0_0 i
  | 1 => hbmTy0_1 i
  | _ => ⟨S1x16x2048x64, .f32⟩

abbrev bufTy : (tb : Table) → Fin (tcTables nBuf tb) → BufTy
  | .hbm, ⟨i, _⟩ => hbmTy i
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_cst_1 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_values_3 : Ref sig .tc := ⟨.hbm, 49, rfl⟩
abbrev main_indices_4 : Ref sig .tc := ⟨.hbm, 50, rfl⟩
abbrev main_v13 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v14 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v15 : Ref sig .tc := ⟨.hbm, 80, rfl⟩
abbrev main_cst_5 : Ref sig .tc := ⟨.hbm, 81, rfl⟩
abbrev main_v16 : Ref sig .tc := ⟨.hbm, 82, rfl⟩
abbrev main_cst_6 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_cst_7 : Ref sig .tc := ⟨.hbm, 90, rfl⟩
abbrev main_v23 : Ref sig .tc := ⟨.hbm, 91, rfl⟩
abbrev main_v24 : Ref sig .tc := ⟨.hbm, 92, rfl⟩
abbrev main_cst_8 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_cst_9 : Ref sig .tc := ⟨.hbm, 97, rfl⟩
abbrev main_v28 : Ref sig .tc := ⟨.hbm, 98, rfl⟩
abbrev main_v29 : Ref sig .tc := ⟨.hbm, 99, rfl⟩
abbrev main_cst_10 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_cst_11 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_cst_12 : Ref sig .tc := ⟨.hbm, 109, rfl⟩
abbrev main_cst_13 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_15 : Ref sig .tc := ⟨.hbm, 123, rfl⟩
abbrev main_cst_16 : Ref sig .tc := ⟨.hbm, 124, rfl⟩
abbrev main_call7_v0 : Ref sig .tc := ⟨.hbm, 125, rfl⟩
abbrev main_call7_v1 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_v43 : Ref sig .tc := ⟨.hbm, 130, rfl⟩
abbrev main_cst_17 : Ref sig .tc := ⟨.hbm, 131, rfl⟩
abbrev main_v44 : Ref sig .tc := ⟨.hbm, 132, rfl⟩
abbrev main_c : Ref sig .tc := ⟨.hbm, 133, rfl⟩
abbrev main_v45 : Ref sig .tc := ⟨.hbm, 134, rfl⟩
abbrev main_v46 : Ref sig .tc := ⟨.hbm, 135, rfl⟩
abbrev main_cst_18 : Ref sig .tc := ⟨.hbm, 136, rfl⟩
abbrev main_v47 : Ref sig .tc := ⟨.hbm, 137, rfl⟩
abbrev main_c_19 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_cst_20 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_cst_21 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_cst_22 : Ref sig .tc := ⟨.hbm, 158, rfl⟩
abbrev main_v65 : Ref sig .tc := ⟨.hbm, 159, rfl⟩
abbrev main_v66 : Ref sig .tc := ⟨.hbm, 160, rfl⟩
abbrev main_cst_23 : Ref sig .tc := ⟨.hbm, 161, rfl⟩
abbrev main_v67 : Ref sig .tc := ⟨.hbm, 162, rfl⟩
abbrev main_cst_24 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_cst_25 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩

abbrev nD : Nat := 1
abbrev τ : Topo := Topo.v7x

variable {F : FTy → Type} [FloatOps F]
-- ==== Proof.Rank.lean ====
/- Ranking the entries of a finite family of extended reals: greater values first, equal values in order of position. The
   place of an entry in that order, the one round that removes the first remaining entry, and the sorted positions a
   stable sort leaves. -/
module

public import Idealize.ShloMosaic.PureOps.Ideal
public import Idealize.ShloMosaic.Lib.SortFacts
public import Idealize.ShloMosaic.Lib.SortNet.Extract

@[expose] public section

noncomputable section

namespace SparseKV

open Finset Idealize.ShloMosaic

variable {n : ℕ}

/-- Entry `i` comes before entry `j`: its value is greater, or the values are equal and its position is smaller. -/
def Before (f : Fin n → EReal) (i j : Fin n) : Prop := f j < f i ∨ (f i = f j ∧ i < j)

open Classical in
/-- The place of entry `j`: how many entries come before it. -/
def rank (f : Fin n → EReal) (j : Fin n) : ℕ := (univ.filter fun i => Before f i j).card

theorem Before.irrefl {f : Fin n → EReal} {i : Fin n} : ¬ Before f i i := by
  rintro (h | h)
  · exact lt_irrefl _ h
  · exact lt_irrefl _ h.2

theorem Before.trans {f : Fin n → EReal} {i j k : Fin n} (h : Before f i j) (h' : Before f j k) : Before f i k := by
  unfold Before at *
  rcases h with h | ⟨h, hi⟩ <;> rcases h' with h' | ⟨h', hj⟩
  · exact .inl (h'.trans h)
  · exact .inl (h' ▸ h)
  · exact .inl (h ▸ h')
  · exact .inr ⟨h.trans h', hi.trans hj⟩

theorem Before.total {f : Fin n → EReal} {i j : Fin n} (h : i ≠ j) : Before f i j ∨ Before f j i := by
  unfold Before
  rcases lt_trichotomy (f i) (f j) with h' | h' | h'
  · exact .inr (.inl h')
  · rcases lt_or_gt_of_ne h with h'' | h''
    · exact .inl (.inr ⟨h', h''⟩)
    · exact .inr (.inr ⟨h'.symm, h''⟩)
  · exact .inl (.inl h')

theorem rank_lt_rank {f : Fin n → EReal} {i j : Fin n} (h : Before f i j) : rank f i < rank f j := by
  classical
  refine card_lt_card ⟨fun k hk => ?_, fun hs => ?_⟩
  · simp only [mem_filter, mem_univ, true_and] at hk ⊢
    exact hk.trans h
  · have := hs (mem_filter.2 ⟨mem_univ i, h⟩)
    exact Before.irrefl (mem_filter.1 this).2

theorem before_iff {f : Fin n → EReal} {i j : Fin n} : Before f i j ↔ rank f i < rank f j := by
  refine ⟨rank_lt_rank, fun h => ?_⟩
  by_cases e : i = j
  · subst e; exact absurd h (lt_irrefl _)
  · rcases Before.total (f := f) e with h' | h'
    · exact h'
    · exact absurd (rank_lt_rank h') (by omega)

theorem rank_lt (f : Fin n → EReal) (j : Fin n) : rank f j < n := by
  classical
  have : (univ.filter fun i => Before f i j).card < (univ : Finset (Fin n)).card :=
    card_lt_card ⟨filter_subset _ _, fun hs => Before.irrefl (mem_filter.1 (hs (mem_univ j))).2⟩
  simpa [rank] using this

theorem rank_injective (f : Fin n → EReal) : Function.Injective (rank f) := by
  intro i j h
  by_contra e
  rcases Before.total (f := f) e with h' | h'
  · exact absurd (rank_lt_rank h') (by omega)
  · exact absurd (rank_lt_rank h') (by omega)

/-- Every place below the length is taken. -/
theorem exists_rank (f : Fin n → EReal) {r : ℕ} (hr : r < n) : ∃ j, rank f j = r := by
  have hinj : Function.Injective fun j : Fin n => (⟨rank f j, rank_lt f j⟩ : Fin n) :=
    fun i j h => rank_injective f (congrArg Fin.val h)
  obtain ⟨j, hj⟩ := (Finite.injective_iff_surjective.1 hinj) ⟨r, hr⟩
  exact ⟨j, congrArg Fin.val hj⟩

/-- An increasing enumeration of the positions by place is the enumeration by rank. -/
theorem rank_of_sorted (f : Fin n → EReal) (σ : Fin n → Fin n) (hσ : ∀ a b, a < b → Before f (σ a) (σ b)) (l : Fin n) :
    rank f (σ l) = l := by
  have hm : StrictMono fun l : Fin n => (⟨rank f (σ l), rank_lt f _⟩ : Fin n) :=
    fun a b h => rank_lt_rank (hσ a b h)
  have hs : Function.Surjective fun l : Fin n => (⟨rank f (σ l), rank_lt f _⟩ : Fin n) :=
    Finite.injective_iff_surjective.1 hm.injective
  have : (fun l : Fin n => (⟨rank f (σ l), rank_lt f _⟩ : Fin n)) = id := by
    let e : Fin n ≃o Fin n := StrictMono.orderIsoOfSurjective _ hm hs
    have he : e = OrderIso.refl _ := Subsingleton.elim _ _
    funext a
    exact congrArg (fun g : Fin n ≃o Fin n => g a) he
  exact congrArg Fin.val (congrFun this l)

/-! ## One round of removing the first remaining entry -/

/-- The family after `r` rounds: the entries of the first `r` places hold −1. -/
def work (f : Fin n → EReal) (r : ℕ) (j : Fin n) : EReal := if rank f j < r then ((-1 : ℝ) : EReal) else f j

/-- Minus one is less than zero. -/
theorem neg_one_lt : ((-1 : ℝ) : EReal) < 0 := by exact_mod_cast (by norm_num : (-1 : ℝ) < 0)

theorem work_zero (f : Fin n → EReal) : work f 0 = f := by funext j; simp [work]

theorem fold_max_eq {g : Fin n → EReal} {j : Fin n} (h : ∀ x, g x ≤ g j) : univ.fold max ⊥ g = g j :=
  le_antisymm (Finset.fold_max_le _ |>.2 ⟨bot_le, fun x _ => h x⟩) (Finset.le_fold_max _ |>.2 (.inr ⟨j, mem_univ j, le_rfl⟩))

theorem toInt_ofNat_small {a : ℕ} (h : a < 2 ^ 31) : (BitVec.ofNat 32 a).toInt = a := by
  rw [BitVec.toInt_eq_toNat_cond, BitVec.toNat_ofNat]
  rw [Nat.mod_eq_of_lt (by omega)]
  split <;> omega

/-- The least position that satisfies `p`, found as a signed minimum over words with `N` where `p` fails. -/
theorem fold_minsi_eq {p : Fin n → Prop} [DecidablePred p] {j : Fin n} {N : ℕ} (hN : N < 2 ^ 31) (hn : n ≤ N)
    (hj : p j) (hmin : ∀ x, p x → j ≤ x) :
    univ.fold IntOp.minsi 2147483647#32 (fun x : Fin n => if p x then BitVec.ofNat 32 x.val else BitVec.ofNat 32 N)
      = BitVec.ofNat 32 j.val := by
  have hjn := j.isLt
  apply BitVec.eq_of_toInt_eq
  rw [toInt_ofNat_small (by omega)]
  have e := Finset.fold_hom (op := IntOp.minsi (w := 32)) (op' := (min : ℤ → ℤ → ℤ)) (m := BitVec.toInt) (s := univ)
    (b := 2147483647#32) (f := fun x : Fin n => if p x then BitVec.ofNat 32 x.val else BitVec.ofNat 32 N)
    (fun a b => SortNet.toInt_minsi a b)
  rw [← e]
  apply le_antisymm
  · refine Finset.fold_min_le _ |>.2 (.inr ⟨j, mem_univ j, ?_⟩)
    rw [if_pos hj, toInt_ofNat_small (by omega)]
  · refine Finset.le_fold_min _ |>.2 ⟨?_, fun x _ => ?_⟩
    · rw [show (2147483647#32 : BitVec 32).toInt = 2147483647 by decide]; omega
    · split
      · rename_i hp
        have h1 : j.val ≤ x.val := hmin x hp
        have := x.isLt
        rw [toInt_ofNat_small (by omega)]; omega
      · rw [toInt_ofNat_small hN]; omega

/-- One round: the entry at the least position of the maximum becomes −1; on the family after `r` rounds it leaves
    the family after `r + 1` rounds. -/
theorem round_eq (f : Fin n → EReal) (hf : ∀ j, 0 ≤ f j) {r : ℕ} (hr : r < n) {N : ℕ} (hN : N < 2 ^ 31) (hn : n ≤ N)
    (j : Fin n) :
    Scalar.select (IntOp.cmpi CmpIPredicate.eq (BitVec.ofNat 32 j.val)
        (univ.fold IntOp.minsi 2147483647#32 (fun x : Fin n =>
          if work f r x = univ.fold max ⊥ (fun x : Fin n => work f r x)
            then BitVec.ofNat 32 x.val else BitVec.ofNat 32 N)))
      ((-1 : ℝ) : EReal) (work f r j) = work f (r + 1) j := by
  obtain ⟨m, hm⟩ := exists_rank f hr
  have hwm : work f r m = f m := by simp [work, hm]
  have hle : ∀ x, work f r x ≤ work f r m := fun x => by
    rw [hwm]; unfold work; split
    · exact neg_one_lt.le.trans (hf m)
    · rename_i h
      by_cases e : x = m
      · rw [e]
      · have hb : Before f m x := before_iff.2 (by
          have : rank f x ≠ rank f m := fun h' => e (rank_injective f h')
          omega)
        rcases hb with h' | h'
        · exact h'.le
        · exact h'.1.ge
  rw [fold_max_eq (g := fun x : Fin n => work f r x) (j := m) hle]
  rw [fold_minsi_eq (p := fun x => work f r x = work f r m) (j := m) hN hn rfl (fun x hx => by
    rw [hwm] at hx
    unfold work at hx; split at hx
    · exact absurd (hx ▸ hf m) (not_le.2 neg_one_lt)
    · rename_i h
      by_contra hlt
      have hb : Before f x m := .inr ⟨hx, not_le.1 hlt⟩
      have := rank_lt_rank hb
      omega)]
  have hjn := j.isLt
  have hmn := m.isLt
  by_cases e : j = m
  · subst e
    simp [IntOp.cmpi, Scalar.select, work, hm]
  · have hne : BitVec.ofNat 32 j.val ≠ BitVec.ofNat 32 m.val := fun h => e (Fin.ext (by
      have := congrArg BitVec.toNat h
      simp only [BitVec.toNat_ofNat] at this
      rwa [Nat.mod_eq_of_lt (by omega), Nat.mod_eq_of_lt (by omega)] at this))
    have hrk : rank f j ≠ r := fun h => e (rank_injective f (h.trans hm.symm))
    have hiff : (rank f j < r + 1) = (rank f j < r) := by
      apply propext; omega
    have hb : (BitVec.ofNat 32 j.val == BitVec.ofNat 32 m.val) = false := by simpa using hne
    simp [IntOp.cmpi, Scalar.select, work, hb, hiff]

/-- After `r` rounds an entry is negative exactly when its place is below `r`. -/
theorem work_neg (f : Fin n → EReal) (hf : ∀ j, 0 ≤ f j) (r : ℕ) (j : Fin n) : work f r j < 0 ↔ rank f j < r := by
  unfold work; split
  · rename_i h; simp only [h, iff_true]; exact neg_one_lt
  · rename_i h; simp [h, hf j]

/-! ## The positions a stable sort leaves -/

theorem pairwise_insertBefore' {ι : Type} (B : ι → ι → Bool) (R : ι → ι → Prop) (htr : ∀ a b c, R a b → R b c → R a c)
    (a : ι) (l : List ι) (hl : l.Pairwise R) (h1 : ∀ b ∈ l, B b a = true → R b a) (h2 : ∀ b ∈ l, B b a = false → R a b) :
    (insertBefore B a l).Pairwise R := by
  induction l with
  | nil => simp [insertBefore]
  | cons b l ih =>
    rw [List.pairwise_cons] at hl
    unfold insertBefore
    split
    · rename_i hb
      rw [List.pairwise_cons]
      refine ⟨fun c hc => ?_, ih hl.2 (fun c hc => h1 c (List.mem_cons_of_mem _ hc)) (fun c hc => h2 c (List.mem_cons_of_mem _ hc))⟩
      rcases List.mem_cons.1 ((perm_insertBefore B a l).mem_iff.1 hc) with rfl | hc
      · exact h1 b (List.mem_cons_self) hb
      · exact hl.1 c hc
    · rename_i hb
      rw [List.pairwise_cons, List.pairwise_cons]
      have hab : R a b := h2 b List.mem_cons_self (by simpa using hb)
      refine ⟨fun c hc => ?_, hl⟩
      rcases List.mem_cons.1 hc with rfl | hc
      · exact hab
      · exact htr _ _ _ hab (hl.1 c hc)

theorem pairwise_stableSort' {ι : Type} (B : ι → ι → Bool) (R Q : ι → ι → Prop) (htr : ∀ a b c, R a b → R b c → R a c)
    (h1 : ∀ a b, Q a b → B b a = true → R b a) (h2 : ∀ a b, Q a b → B b a = false → R a b)
    (l : List ι) (hl : l.Pairwise Q) : (stableSort B l).Pairwise R := by
  induction l with
  | nil => exact List.Pairwise.nil
  | cons a l ih =>
    rw [List.pairwise_cons] at hl
    unfold stableSort
    refine pairwise_insertBefore' B R htr a _ (ih hl.2) (fun b hb => h1 a b (hl.1 b ?_)) (fun b hb => h2 a b (hl.1 b ?_))
    · exact (perm_stableSort B l).mem_iff.1 hb
    · exact (perm_stableSort B l).mem_iff.1 hb

/-- A stable sort by decreasing value lists the positions by rank. -/
theorem rank_sortedFrom (f : Fin n → EReal) (l : Fin n) :
    rank f (sortedFrom (fun a b : Fin n => decide (f b < f a)) l) = l := by
  refine rank_of_sorted f _ (fun a b hab => ?_) l
  have hp : (sortPositions n (fun a b : Fin n => decide (f b < f a))).Pairwise (Before f) := by
    refine pairwise_stableSort' _ (Before f) (· < ·) (fun _ _ _ h h' => h.trans h') (fun a b _ hb => ?_) (fun a b hq hb => ?_) _ ?_
    · exact .inl (by simpa using hb)
    · have hb : f b ≤ f a := by simpa using hb
      rcases hb.lt_or_eq with h | h
      · exact .inl h
      · exact .inr ⟨h.symm, hq⟩
    · exact List.pairwise_lt_finRange n
  exact List.pairwise_iff_get.1 hp _ _ (by simpa using hab)

end SparseKV
-- ==== Proof.Spec.lean ====
/- What the layer computes, over real queries and keys and any values: outlier tokens of K and outlier channels of V by rank, the rest of each
   quantised to fifteen levels and read back, and attention over the result. -/
module

public import proofs.«01_k».proof.Proof.Rank

@[expose] public section

noncomputable section

namespace SparseKV

open Finset Idealize.ShloMosaic

/-- An array of one batch: head, token, channel. -/
abbrev Arr := Fin 16 → Fin 2048 → Fin 64 → ℝ

/-- An array of one batch whose entries may be infinite. -/
abbrev Vals := Fin 16 → Fin 2048 → Fin 64 → EReal

/-- The real the literal `1e-6` denotes. -/
def eps : ℝ := 8796093 / 8796093022208

/-- A token's score: the sum of its magnitudes over the channels. -/
def kSum (K : Arr) (h : Fin 16) (s : Fin 2048) : EReal := ((∑ d, |K h s d| : ℝ) : EReal)
/-- A channel's score: the sum of its magnitudes over the tokens. -/
def vSum (V : Vals) (h : Fin 16) (d : Fin 64) : EReal := ∑ s, max (V h s d) (-V h s d)

/-- The maximum of finitely many magnitudes. -/
def amax {n : ℕ} [NeZero n] (f : Fin n → ℝ) : ℝ := univ.sup' univ_nonempty fun i => |f i|

/-- A value quantised at a scale to the integers −7 … 7 and read back. -/
def rq (x s : ℝ) : ℝ := min 7 (max (-7) ((Ideal.roundHalfEven (x / s * 7) : ℤ) : ℝ)) / 7 * s

/-- The same of an entry and a scale that may be infinite. -/
def rqx (x s : EReal) : EReal :=
  Ideal.div (min ((7 : ℝ) : EReal) (max ((-7 : ℝ) : EReal) (Ideal.liftRound Ideal.roundHalfEven (Ideal.div x s * ((7 : ℝ) : EReal)))))
    ((7 : ℝ) : EReal) * s

/-- K without its outlier tokens. -/
def kDense (K : Arr) (h : Fin 16) (s : Fin 2048) (d : Fin 64) : ℝ := if rank (kSum K h) s < 32 then 0 else K h s d
/-- V without its outlier channels. -/
def vDense (V : Vals) (h : Fin 16) (s : Fin 2048) (d : Fin 64) : EReal := if rank (vSum V h) d < 8 then 0 else V h s d
/-- The scale of a channel of K. -/
def kScale (K : Arr) (h : Fin 16) (d : Fin 64) : ℝ := amax (fun s => kDense K h s d) + eps
/-- The scale of a token of V. -/
def vScale (V : Vals) (h : Fin 16) (s : Fin 2048) : EReal :=
  univ.fold max ⊥ (fun d => max (vDense V h s d) (-vDense V h s d)) + ((eps : ℝ) : EReal)
/-- K read back: the outlier tokens as they are, the others from their quantised form. -/
def kRec (K : Arr) (h : Fin 16) (s : Fin 2048) (d : Fin 64) : ℝ :=
  if rank (kSum K h) s < 32 then K h s d else rq (kDense K h s d) (kScale K h d)
/-- V read back: the outlier channels as they are, the others from their quantised form. -/
def vRec (V : Vals) (h : Fin 16) (s : Fin 2048) (d : Fin 64) : EReal :=
  if rank (vSum V h) d < 8 then V h s d else rqx (vDense V h s d) (vScale V h s)
/-- The score of key `j` for query `i`. -/
def score (Q K : Arr) (h : Fin 16) (i j : Fin 2048) : ℝ := (∑ d, Q h i d * kRec K h j d) / 8
/-- The layer's result. -/
def out (Q K : Arr) (V : Vals) (h : Fin 16) (i : Fin 2048) (d : Fin 64) : EReal :=
  (∑ j, vRec V h j d * ((Real.exp (score Q K h i j) : ℝ) : EReal)) * ((1 / ∑ j, Real.exp (score Q K h i j) : ℝ) : EReal)

/-! ## Small facts -/

theorem eps_pos : 0 < eps := by unfold eps; norm_num

theorem amax_nonneg {n : ℕ} [NeZero n] (f : Fin n → ℝ) : 0 ≤ amax f :=
  (abs_nonneg (f 0)).trans (Finset.le_sup' (fun i => |f i|) (mem_univ 0))

theorem kScale_pos (K : Arr) (h : Fin 16) (d : Fin 64) : 0 < kScale K h d :=
  add_pos_of_nonneg_of_pos (amax_nonneg _) eps_pos

theorem kSum_nonneg (K : Arr) (h : Fin 16) (s : Fin 2048) : 0 ≤ kSum K h s :=
  EReal.coe_nonneg.2 (Finset.sum_nonneg fun _ _ => abs_nonneg _)

/-- A magnitude is not negative. -/
theorem mag_nonneg (x : EReal) : 0 ≤ max x (-x) := by
  rcases le_total 0 x with h | h
  · exact h.trans (le_max_left _ _)
  · exact (EReal.neg_nonneg.2 h).trans (le_max_right _ _)

theorem vScale_ne (V : Vals) (h : Fin 16) (s : Fin 2048) : vScale V h s ≠ 0 := by
  have h0 : (0 : EReal) ≤ univ.fold max ⊥ fun d => max (vDense V h s d) (-vDense V h s d) :=
    Finset.le_fold_max _ |>.2 (.inr ⟨0, mem_univ _, mag_nonneg _⟩)
  refine (lt_of_lt_of_le (EReal.coe_pos.2 eps_pos) ?_).ne'
  exact le_add_of_nonneg_left h0

theorem vSum_nonneg (V : Vals) (h : Fin 16) (d : Fin 64) : 0 ≤ vSum V h d := Finset.sum_nonneg fun _ _ => mag_nonneg _

/-- A number that is not negative multiplies a sum term by term. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of extended reals that are real, from −∞, is the reals' maximum. -/
theorem fold_max_coe {n : ℕ} [NeZero n] (f : Fin n → ℝ) :
    univ.fold max ⊥ (fun i => ((f i : ℝ) : EReal)) = ((univ.sup' univ_nonempty f : ℝ) : EReal) := by
  obtain ⟨m, -, hm⟩ := Finset.exists_mem_eq_sup' (s := univ) univ_nonempty f
  rw [fold_max_eq (g := fun i => ((f i : ℝ) : EReal)) (j := m), hm]
  intro x
  have := Finset.le_sup' f (mem_univ x)
  rw [hm] at this
  exact_mod_cast this

theorem coe_abs (x : ℝ) : ((|x| : ℝ) : EReal) = max (x : EReal) (-(x : EReal)) := by
  rw [abs_eq_max_neg]; norm_cast

theorem coe_min (x y : ℝ) : ((min x y : ℝ) : EReal) = min (x : EReal) (y : EReal) := by
  rcases le_total x y with h | h
  · rw [min_eq_left h, min_eq_left (by exact_mod_cast h)]
  · rw [min_eq_right h, min_eq_right (by exact_mod_cast h)]

theorem coe_max (x y : ℝ) : ((max x y : ℝ) : EReal) = max (x : EReal) (y : EReal) := by
  rcases le_total x y with h | h
  · rw [max_eq_right h, max_eq_right (by exact_mod_cast h)]
  · rw [max_eq_left h, max_eq_left (by exact_mod_cast h)]

/-- Division of reals, by something that is not zero. -/
theorem div_real (x : ℝ) {y : ℝ} (hy : y ≠ 0) : Ideal.div (x : EReal) (y : EReal) = ((x / y : ℝ) : EReal) := by
  rw [Ideal.div_coe hy, ← EReal.coe_mul]; congr 1; ring

/-! ## The literals -/

theorem lit_eps : Ideal.ofBits .f32 0x358637BD#32 = ((eps : ℝ) : EReal) := by
  unfold eps; simp [Ideal.ofBits, Ideal.ieee, -EReal.coe_mul]; norm_num
theorem lit_7 : Ideal.ofBits .f32 0x40E00000#32 = ((7 : ℝ) : EReal) := by
  simp [Ideal.ofBits, Ideal.ieee, -EReal.coe_mul]; norm_num
theorem lit_m7 : Ideal.ofBits .f32 0xC0E00000#32 = ((-7 : ℝ) : EReal) := by
  simp [Ideal.ofBits, Ideal.ieee, -EReal.coe_mul]; norm_num
theorem lit_m1 : Ideal.ofBits .f32 0xBF800000#32 = ((-1 : ℝ) : EReal) := by
  simp [Ideal.ofBits, Ideal.ieee, -EReal.coe_mul]; norm_num
theorem lit_8 : Ideal.ofBits .f32 0x41000000#32 = ((8 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_neg_inf : Ideal.ofBits .f32 0xFF800000#32 = ⊥ := by
  simp [Ideal.ofBits, Ideal.ieee]
theorem lit_inf : Ideal.ofBits .f32 0x7F800000#32 = ⊤ := by
  simp [Ideal.ofBits, Ideal.ieee]

end SparseKV
-- ==== Proof.Head.lean ====
/- What one head of the attention call computes from the blocks it reads: the read-back keys and values, and one block
   of 512 queries of the result. -/
module

public import proofs.«01_k».proof.Proof.Gen.KernelIdeal.Skeleton
public import proofs.«01_k».proof.Proof.Spec
public import Idealize.ShloMosaic.Lib.Pointwise

@[expose] public section

set_option maxRecDepth 16384

noncomputable section

namespace SparseKV

open Finset Idealize.ShloMosaic Cert.KernelIdeal Cert.KernelIdeal.Gen

/-! ## Scalar facts -/

/-- The kernel's spelling of quantising a key and reading it back: times 7 over the scale, then times the scale's
    seventh. -/
theorem kq_scalar (x : ℝ) {s : ℝ} (hs : 0 < s) :
    min ((7 : ℝ) : EReal) (max ((-7 : ℝ) : EReal) (Ideal.liftRound Ideal.roundHalfEven
        ((x : EReal) * Ideal.div ((7 : ℝ) : EReal) (s : EReal)))) * ((s : EReal) * ((1 / 7 : ℝ) : EReal))
      = ((rq x s : ℝ) : EReal) := by
  rw [div_real _ hs.ne', ← EReal.coe_mul, Ideal.liftRound_coe, ← coe_max, ← coe_min, ← EReal.coe_mul, ← EReal.coe_mul]
  unfold rq
  rw [show x * (7 / s) = x / s * 7 by ring]
  congr 1; ring

/-- A selection by a bit. -/
theorem sel_eq {α : Type} (m : BitVec 1) (a b : α) : Scalar.select m a b = if m = 1#1 then a else b := rfl

theorem absf_coe (x : ℝ) : FloatOps.absf (F := Ideal) (φ := .f32) ((x : ℝ) : EReal) = ((|x| : ℝ) : EReal) := (coe_abs x).symm

/-- The magnitude of an extended real. -/
theorem absf_mag (x : EReal) : FloatOps.absf (F := Ideal) (φ := .f32) x = max x (-x) := rfl

/-- The scale: the maximum magnitude and the literal. -/
theorem scale_eq {n : ℕ} [NeZero n] (f : Fin n → ℝ) :
    univ.fold max ⊥ (fun i => ((|f i| : ℝ) : EReal)) + ((eps : ℝ) : EReal) = ((amax f + eps : ℝ) : EReal) := by
  rw [fold_max_coe, EReal.coe_add]; rfl

theorem named_seventh : Named.named (F := Ideal) Cert.KernelIdeal.κ (φ := .f32) "inv_qmax" 0x3E124925#32 = ((1 / 7 : ℝ) : EReal) :=
  IdealRules.named_const.ideal_named_scalar _ _ _ _ rfl

/-- The indicator the kernel makes of a position and a head's number. -/
theorem onehot (x : Fin 16) (w : BitVec 32) (h : Fin 16) (hw : w = BitVec.ofNat 32 h.val) :
    FloatOps.sitofp (F := Ideal) FTy.f32 (BitVec.setWidth 32 (IntOp.cmpi CmpIPredicate.eq (BitVec.ofNat 32 x.val) w))
      = (((if x = h then 1 else 0 : ℝ)) : EReal) := by
  subst hw
  have h1 : FloatOps.sitofp (F := Ideal) FTy.f32 (BitVec.setWidth 32 (IntOp.cmpi CmpIPredicate.eq (BitVec.ofNat 32 x.val) (BitVec.ofNat 32 h.val)))
      = (((BitVec.setWidth 32 (IntOp.cmpi CmpIPredicate.eq (BitVec.ofNat 32 x.val) (BitVec.ofNat 32 h.val))).toInt : ℝ) : EReal) := rfl
  rw [h1]
  have h2 : (BitVec.setWidth 32 (IntOp.cmpi CmpIPredicate.eq (BitVec.ofNat 32 x.val) (BitVec.ofNat 32 h.val))).toInt
      = if x = h then 1 else 0 := by
    clear h1; revert x h; decide
  rw [h2]; split <;> simp

/-- A column picked out by the indicator of a head. -/
theorem pick (f : Fin 16 → EReal) (h : Fin 16) : ∑ x, f x * (((if x = h then 1 else 0 : ℝ)) : EReal) = f h := by
  rw [Finset.sum_eq_single_of_mem h (mem_univ h) fun x _ hne => by rw [if_neg hne, EReal.coe_zero, mul_zero]]
  rw [if_pos rfl, EReal.coe_one, mul_one]

variable (Q K : Arr) (V : Vals) (h : Fin 16)

/-! ## The keys read back -/

/-- The first head of a pair. -/
theorem krec0 (kb : Vec Ideal S1x1x64x2048 .f32) (row : Vec Ideal S1x2048 .f32)
    (hk : ∀ d s, kb (ix4 0 0 d s) = ((K h s d : ℝ) : EReal))
    (hr : ∀ s, row (ix2 0 s) = work (kSum K h) 32 s) (d : Fin 64) (s : Fin 2048) :
    k1_pay10 (F := Ideal) (k1_pay3 kb) (k1_pay5 row) (k1_pay8 kb row) (FloatOps.ofBits FTy.f32 1088421888#32) (k1_pay9 kb row) (ix2 d s)
      = ((kRec K h s d : ℝ) : EReal) := by
  have hm : ∀ s, (row (ix2 0 s) < 0) = (rank (kSum K h) s < 32) := fun s => by
    rw [hr]; exact propext (work_neg _ (kSum_nonneg K h) _ _)
  have hd : ∀ s, (if row (ix2 0 s) < 0 then (0 : EReal) else kb (ix4 0 0 d s)) = ((kDense K h s d : ℝ) : EReal) := fun s => by
    unfold kDense; simp only [hm, hk]; split <;> simp
  unfold k1_pay10
  pointwise [k1_pay3, k1_pay5, k1_pay8, k1_pay9, k1_pay7]
  simp only [hd]
  simp only [hm, hk, absf_coe, lit_eps, lit_7, lit_m7, lit_neg_inf, named_seventh]
  rw [show _ = ((kScale K h d : ℝ) : EReal) from scale_eq fun s => kDense K h s d, kq_scalar _ (kScale_pos K h d)]
  unfold kRec
  split <;> rfl

/-- The second head of a pair. -/
theorem krec1 (kb : Vec Ideal S1x1x64x2048 .f32) (row : Vec Ideal S1x2048 .f32)
    (hk : ∀ d s, kb (ix4 0 0 d s) = ((K h s d : ℝ) : EReal))
    (hr : ∀ s, row (ix2 0 s) = work (kSum K h) 32 s) (d : Fin 64) (s : Fin 2048) :
    k1_pay21 (F := Ideal) (k1_pay20 kb row) (ix2 d s)
      = ((kRec K h s d : ℝ) : EReal) := by
  have hm : ∀ s, (row (ix2 0 s) < 0) = (rank (kSum K h) s < 32) := fun s => by
    rw [hr]; exact propext (work_neg _ (kSum_nonneg K h) _ _)
  have hd : ∀ s, (if row (ix2 0 s) < 0 then (0 : EReal) else kb (ix4 0 0 d s)) = ((kDense K h s d : ℝ) : EReal) := fun s => by
    unfold kDense; simp only [hm, hk]; split <;> simp
  unfold k1_pay21
  pointwise [k1_pay20]
  simp only [hd]
  simp only [hm, hk, absf_coe, lit_eps, lit_7, lit_m7, lit_neg_inf, named_seventh]
  rw [show _ = ((kScale K h d : ℝ) : EReal) from scale_eq fun s => kDense K h s d, kq_scalar _ (kScale_pos K h d)]
  unfold kRec
  split <;> rfl

/-! ## The values read back -/

/-- Which channels of V are outliers, read off the mask array at the head's column. -/
theorem vout0 (i : grid1.Coords) (vm : Vec Ideal S64x16 .f32) (hw : Scalar.addi (Scalar.muli (BitVec.ofNat 32 (i 0).val) 2#32) 0#32 = BitVec.ofNat 32 h.val)
    (hvm : ∀ d h', vm (ix2 d h') = work (vSum V h') 8 d) (d : Fin 64) :
    (k1_pay6 (F := Ideal) i vm (ix2 d 0) = 1#1) = (rank (vSum V h) d < 8) := by
  unfold k1_pay6
  pointwise
  simp only [hvm, onehot _ _ h hw, pick (fun h' => work (vSum V h') 8 d)]
  apply propext
  rw [← work_neg _ (vSum_nonneg V h)]
  by_cases hn : work (vSum V h) 8 d < 0
  · simp [hn]
  · simp [hn]

/-- Which channels of V are outliers, read off the mask array at the head's column. -/
theorem vout1 (w : BitVec 32) (vm : Vec Ideal S64x16 .f32) (hw : w = BitVec.ofNat 32 h.val)
    (hvm : ∀ d h', vm (ix2 d h') = work (vSum V h') 8 d) (d : Fin 64) :
    (k1_pay19 (F := Ideal) w vm (ix2 d 0) = 1#1) = (rank (vSum V h) d < 8) := by
  unfold k1_pay19
  pointwise
  simp only [hvm, onehot _ _ h hw, pick (fun h' => work (vSum V h') 8 d)]
  apply propext
  rw [← work_neg _ (vSum_nonneg V h)]
  by_cases hn : work (vSum V h) 8 d < 0
  · simp [hn]
  · simp [hn]

/-- The values read back, with a row of ones below them. -/
theorem vaug0 (vb : Vec Ideal S1x1x64x2048 .f32) (mask : IVec S64x1 1)
    (hv : ∀ d s, vb (ix4 0 0 d s) = V h s d)
    (hm : ∀ d, (mask (ix2 d 0) = 1#1) = (rank (vSum V h) d < 8)) (d : Fin 65) (s : Fin 2048) :
    k1_pay11 (F := Ideal) (k1_pay4 vb) mask (ix2 d s) = if hd : d.val < 64 then vRec V h s ⟨d.val, hd⟩ else 1 := by
  have hd : ∀ d, Scalar.select (mask (ix2 d 0)) (0 : EReal) (vb (ix4 0 0 d s)) = vDense V h s d := fun d => by
    unfold vDense; simp only [sel_eq, hm, hv]
  unfold k1_pay11
  pointwise [k1_pay4]
  simp only [hd]
  simp only [hv, absf_mag, lit_eps, lit_7, lit_m7, lit_neg_inf]
  split
  · rename_i hlt
    unfold vRec
    simp only [sel_eq, hm]
    split <;> rfl
  · rfl

/-- The values read back, with a row of ones below them. -/
theorem vaug1 (vb : Vec Ideal S1x1x64x2048 .f32) (mask : IVec S64x1 1)
    (hv : ∀ d s, vb (ix4 0 0 d s) = V h s d)
    (hm : ∀ d, (mask (ix2 d 0) = 1#1) = (rank (vSum V h) d < 8)) (d : Fin 65) (s : Fin 2048) :
    k1_pay22 (F := Ideal) (k1_pay18 vb) mask (ix2 d s) = if hd : d.val < 64 then vRec V h s ⟨d.val, hd⟩ else 1 := by
  have hd : ∀ d, Scalar.select (mask (ix2 d 0)) (0 : EReal) (vb (ix4 0 0 d s)) = vDense V h s d := fun d => by
    unfold vDense; simp only [sel_eq, hm, hv]
  unfold k1_pay22
  pointwise [k1_pay18]
  simp only [hd]
  simp only [hv, absf_mag, lit_eps, lit_7, lit_m7, lit_neg_inf]
  split
  · rename_i hlt
    unfold vRec
    simp only [sel_eq, hm]
    split <;> rfl
  · rfl

/-! ## One block of queries -/

/-- The kernel's spelling of the attention of one query: weights without a shift, the values' weighted sum times the
    reciprocal of the weights' sum. -/
theorem out_scalar (i : Fin 2048) (d : Fin 64) :
    (∑ x, vRec V h x d * Ideal.exp (∑ y, ((Q h i y : ℝ) : EReal) * ((1 / 8 : ℝ) : EReal) * ((kRec K h x y : ℝ) : EReal)))
        * Ideal.div 1 (∑ x : Fin 2048, ((1 : ℝ) : EReal) * Ideal.exp (∑ y, ((Q h i y : ℝ) : EReal) * ((1 / 8 : ℝ) : EReal) * ((kRec K h x y : ℝ) : EReal)))
      = out Q K V h i d := by
  have hs : ∀ x : Fin 2048, Ideal.exp (∑ y, ((Q h i y : ℝ) : EReal) * ((1 / 8 : ℝ) : EReal) * ((kRec K h x y : ℝ) : EReal))
      = ((Real.exp (score Q K h i x) : ℝ) : EReal) := fun x => by
    rw [Finset.sum_congr rfl fun y _ => show ((Q h i y : ℝ) : EReal) * ((1 / 8 : ℝ) : EReal) * ((kRec K h x y : ℝ) : EReal)
      = ((Q h i y * kRec K h x y / 8 : ℝ) : EReal) by rw [← EReal.coe_mul, ← EReal.coe_mul]; congr 1; ring]
    rw [← coe_sum, Ideal.exp_coe]
    unfold score
    rw [Finset.sum_div]
  have hp : (0 : ℝ) < ∑ x, Real.exp (score Q K h i x) := Finset.sum_pos (fun _ _ => Real.exp_pos _) univ_nonempty
  simp only [hs]
  simp only [EReal.coe_one, one_mul]
  rw [← coe_sum, ← EReal.coe_one, div_real _ hp.ne']
  rfl

theorem block0_0 (va : FVec Ideal S65x2048 .bf16) (k3 : FVec Ideal S64x2048 .f32) (m : IVec S1x2048 1) (sc : FVec Ideal S64x1 .f32) (c : Ideal .f32) (w : FVec Ideal S64x2048 .f32)
    (hkr : ∀ d s, k1_pay10 (F := Ideal) k3 m sc c w (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay13 (F := Ideal) va (k1_pay12 k3 m sc c w qb) (ix4 0 0 d x) = out Q K V h (pos x) d := by
  unfold k1_pay13
  pointwise [k1_pay12]
  simp only [hq, hkr, hva, lit_eighth]
  have e := out_scalar Q K V h (pos x) d
  simpa using e

theorem block0_1 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay14 (F := Ideal) kr va qb (ix4 0 0 d x) = out Q K V h (pos x) d := by
  unfold k1_pay14
  pointwise
  simp only [hq, hkr, hva, lit_eighth]
  have e := out_scalar Q K V h (pos x) d
  simpa using e

theorem block0_2 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay16 (F := Ideal) kr va (k1_pay15 qb) (constant S512x2048 FTy.f32 0#32) (ix4 0 0 d x) = out Q K V h (pos x) d := by
  unfold k1_pay16
  pointwise [k1_pay15]
  simp only [hq, hkr, hva, lit_eighth]
  have e := out_scalar Q K V h (pos x) d
  simpa using e

theorem block0_3 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay17 (F := Ideal) kr va qb (ix4 0 0 d x) = out Q K V h (pos x) d := by
  unfold k1_pay17
  pointwise
  simp only [hq, hkr, hva, lit_eighth]
  have e := out_scalar Q K V h (pos x) d
  simpa using e

theorem block1_0 (vb : FVec Ideal S64x2048 .f32) (mask : IVec S64x1 1) (kb : FVec Ideal S64x2048 .f32)
    (hkr : ∀ d s, k1_pay21 (F := Ideal) kb (ix2 d s) = ((kRec K h s d : ℝ) : EReal))
    (hva : ∀ d s, k1_pay22 (F := Ideal) vb mask (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay24 (F := Ideal) (k1_pay23 vb mask kb qb) (ix4 0 0 d x) = out Q K V h (pos x) d := by
  unfold k1_pay24
  pointwise [k1_pay23]
  simp only [hq, hkr, hva, lit_eighth]
  have e := out_scalar Q K V h (pos x) d
  simpa using e

theorem block1_1 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay25 (F := Ideal) kr va qb (ix4 0 0 d x) = out Q K V h (pos x) d := by
  unfold k1_pay25
  pointwise
  simp only [hq, hkr, hva, lit_eighth]
  have e := out_scalar Q K V h (pos x) d
  simpa using e

theorem block1_2 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay1 (F := Ideal) (k1_pay27 kr va qb) (k1_pay28 kr va qb) (ix4 0 0 d x) = out Q K V h (pos x) d := by
  unfold k1_pay1
  pointwise [k1_pay27, k1_pay28, k1_pay26]
  simp only [hq, hkr, hva, lit_eighth]
  have e := out_scalar Q K V h (pos x) d
  simpa using e

theorem block1_3 (kr : FVec Ideal S64x2048 .bf16) (va : FVec Ideal S65x2048 .bf16)
    (hkr : ∀ d s, kr (ix2 d s) = ((kRec K h s d : ℝ) : EReal))
    (hva : ∀ d s, va (ix2 d s) = if hd : d.val < 64 then vRec V h s ⟨d.val, hd⟩ else 1)
    (qb : Vec Ideal S1x1x64x512 .f32) (pos : Fin 512 → Fin 2048)
    (hq : ∀ d x, qb (ix4 0 0 d x) = ((Q h (pos x) d : ℝ) : EReal)) (d : Fin 64) (x : Fin 512) :
    k1_pay2 (F := Ideal) kr va qb (ix4 0 0 d x) = out Q K V h (pos x) d := by
  unfold k1_pay2
  pointwise
  simp only [hq, hkr, hva, lit_eighth]
  have e := out_scalar Q K V h (pos x) d
  simpa using e

end SparseKV
-- ==== Proof.Masks.lean ====
/- What the mask call computes: the magnitude sums of every head, the rounds that remove the greatest remaining entry
   of each row, and the two arrays the call leaves: the sums with the outliers' replaced by minus one. -/
module

public import proofs.«01_k».proof.Proof.Gen.KernelIdeal.Frame
public import proofs.«01_k».proof.Proof.Head
public import Idealize.ShloMosaic.Lib.Pointwise
public import Idealize.ShloMosaic.Lib.Pipeline.ValueKit

@[expose] public section

set_option maxRecDepth 16384

noncomputable section

namespace SparseKV

open Finset Idealize.ShloMosaic Cert.KernelIdeal Cert.KernelIdeal.Gen

variable (K : Arr) (V : Vals)

/-! ## The magnitude sums -/

/-- One head's row of token scores. -/
theorem ks_piece (x : Vec Ideal S1x16x64x2048 .f32) (hx : ∀ h d s, x (ix4 0 h d s) = ((K h s d : ℝ) : EReal))
    (hh h : Fin 16) (s' s : Fin 2048) (e : h.val = hh.val) (es : s'.val = s.val) :
    ∑ d : Fin 64, FloatOps.absf (F := Ideal) (φ := .f32) (x (ix4 0 hh d s')) = kSum K h s := by
  obtain rfl : h = hh := Fin.ext e
  obtain rfl : s' = s := Fin.ext es
  simp only [hx, absf_coe, ← coe_sum]
  rfl

/-- One head's row of channel scores. -/
theorem vs_piece (x : Vec Ideal S1x16x64x2048 .f32) (hx : ∀ h d s, x (ix4 0 h d s) = V h s d)
    (hh h : Fin 16) (d' d : Fin 64) (e : h.val = hh.val) (es : d'.val = d.val) :
    ∑ s : Fin 2048, FloatOps.absf (F := Ideal) (φ := .f32) (x (ix4 0 hh d' s)) = vSum V h d := by
  obtain rfl : h = hh := Fin.ext e
  obtain rfl : d' = d := Fin.ext es
  simp only [hx, absf_mag]
  rfl

/-- The token scores of all heads. -/
theorem ks_apply (x : Vec Ideal S1x16x64x2048 .f32) (hx : ∀ h d s, x (ix4 0 h d s) = ((K h s d : ℝ) : EReal)) (h : Fin 16) (s : Fin 2048) :
    k0_pay16 (F := Ideal) (k0_pay5 x) (k0_pay8 x) (k0_pay9 x) (k0_pay10 x) (k0_pay11 x) (k0_pay12 x) (k0_pay13 x) (k0_pay14 x)
      (k0_pay15 x) (ix2 h s) = kSum K h s := by
  unfold k0_pay16
  dsimp only
  concat_tiles i e
  all_goals
    pointwise [k0_pay5, k0_pay8, k0_pay9, k0_pay10, k0_pay11, k0_pay12, k0_pay13, k0_pay14, k0_pay15]
    exact ks_piece K x hx _ _ _ _ e e1

/-- The channel scores of all heads. -/
theorem vs_apply (x : Vec Ideal S1x16x64x2048 .f32) (hx : ∀ h d s, x (ix4 0 h d s) = V h s d) (h : Fin 16) (d : Fin 64) :
    k0_pay1 (F := Ideal) (k0_pay6 x) k0_pay7 (k0_pay17 (k0_pay6 x) k0_pay7) (k0_pay19 k0_pay7 (k0_pay18 (k0_pay6 x)))
      (k0_pay20 (k0_pay6 x) k0_pay7) (k0_pay21 (k0_pay6 x) k0_pay7) (k0_pay22 (k0_pay6 x) k0_pay7) (k0_pay23 (k0_pay6 x) k0_pay7)
      (k0_pay24 (k0_pay6 x) k0_pay7) (k0_pay25 (k0_pay6 x) k0_pay7) (k0_pay26 (k0_pay6 x) k0_pay7) (k0_pay27 (k0_pay6 x) k0_pay7)
      (k0_pay28 (k0_pay6 x) k0_pay7) (k0_pay29 (k0_pay6 x) k0_pay7) (k0_pay30 (k0_pay6 x) k0_pay7) (k0_pay31 (k0_pay6 x))
      (ix2 h d) = vSum V h d := by
  unfold k0_pay1
  concat_tiles i e
  all_goals
    pointwise [k0_pay6, k0_pay7, k0_pay17, k0_pay18, k0_pay19, k0_pay20, k0_pay21, k0_pay22, k0_pay23, k0_pay24, k0_pay25,
      k0_pay26, k0_pay27, k0_pay28, k0_pay29, k0_pay30, k0_pay31]
    exact vs_piece V x hx _ _ _ _ e e1

/-! ## The rounds -/

/-- One round on the rows of token scores. -/
theorem kround (a : Fin 16 → Fin 2048 → EReal) (ha : ∀ h s, 0 ≤ a h s) (g : FVec Ideal S16x2048 .f32) {r : ℕ} (hr : r < 2048)
    (hg : ∀ h s, g (ix2 h s) = work (a h) r s) (h : Fin 16) (s : Fin 2048) :
    k0_pay2 (F := Ideal) g (ix2 h s) = work (a h) (r + 1) s := by
  unfold k0_pay2
  pointwise
  simp only [hg, lit_neg_inf, lit_m1]
  exact round_eq (a h) (ha h) hr (by norm_num) le_rfl s

/-- One round on the rows of channel scores. -/
theorem vround (a : Fin 16 → Fin 64 → EReal) (ha : ∀ h s, 0 ≤ a h s) (g : FVec Ideal S16x64 .f32) {r : ℕ} (hr : r < 64)
    (hg : ∀ h s, g (ix2 h s) = work (a h) r s) (h : Fin 16) (s : Fin 64) :
    k0_pay3 (F := Ideal) g (ix2 h s) = work (a h) (r + 1) s := by
  unfold k0_pay3
  pointwise
  simp only [hg, lit_neg_inf, lit_m1]
  exact round_eq (a h) (ha h) hr (by norm_num) le_rfl s

/-- Rounds one after another, as many as the list is long. -/
theorem rounds {A ι : Type} (P : ℕ → A → Prop) (g : A → A) (n : ℕ) (step : ∀ r < n, ∀ x, P r x → P (r + 1) (g x))
    (l : List ι) : ∀ (r : ℕ) (x : A), r + l.length ≤ n → P r x → P (r + l.length) (l.foldl (fun acc _ => g acc) x) := by
  induction l with
  | nil => intro r x _ hx; simpa using hx
  | cons b l ih =>
    intro r x hn hx
    rw [List.length_cons] at hn ⊢
    have := ih (r + 1) (g x) (by omega) (step r (by omega) x hx)
    rwa [show r + 1 + l.length = r + (l.length + 1) by omega] at this

theorem trips1 : k0_t1_loop.trips = 32 := by decide
theorem trips2 : k0_t2_loop.trips = 8 := by decide

/-- The token rounds, all together. -/
theorem kfold (a : Fin 16 → Fin 2048 → EReal) (ha : ∀ h s, 0 ≤ a h s) (g : FVec Ideal S16x2048 .f32)
    (hg : ∀ h s, g (ix2 h s) = a h s) (h : Fin 16) (s : Fin 2048) :
    Scf.fold (n := k0_t1_loop.trips) (fun _ acc => k0_pay2 (F := Ideal) acc) g (ix2 h s) = work (a h) 32 s := by
  rw [Scf.fold_eq]
  have := rounds (fun r (x : FVec Ideal S16x2048 .f32) => ∀ h s, x (ix2 h s) = work (a h) r s) (k0_pay2 (F := Ideal)) 2048
    (fun r hr x hx => kround a ha x hr hx) (List.finRange k0_t1_loop.trips) 0 g
    (by rw [List.length_finRange, trips1]; norm_num) (by simpa only [work_zero] using hg)
  rw [List.length_finRange, trips1] at this
  exact this h s

/-- The channel rounds, all together. -/
theorem vfold (a : Fin 16 → Fin 64 → EReal) (ha : ∀ h s, 0 ≤ a h s) (g : FVec Ideal S16x64 .f32)
    (hg : ∀ h s, g (ix2 h s) = a h s) (h : Fin 16) (s : Fin 64) :
    Scf.fold (n := k0_t2_loop.trips) (fun _ acc => k0_pay3 (F := Ideal) acc) g (ix2 h s) = work (a h) 8 s := by
  rw [Scf.fold_eq]
  have := rounds (fun r (x : FVec Ideal S16x64 .f32) => ∀ h s, x (ix2 h s) = work (a h) r s) (k0_pay3 (F := Ideal)) 64
    (fun r hr x hx => vround a ha x hr hx) (List.finRange k0_t2_loop.trips) 0 g
    (by rw [List.length_finRange, trips2]; norm_num) (by simpa only [work_zero] using hg)
  rw [List.length_finRange, trips2] at this
  exact this h s

/-- The product with the identity matrix lays the channel rows out as columns. -/
theorem flip_apply (a : Fin 16 → Fin 64 → EReal) (g : FVec Ideal S16x64 .f32) (hg : ∀ h s, g (ix2 h s) = a h s)
    (d : Fin 64) (h : Fin 16) : k0_pay4 (F := Ideal) g (ix2 d h) = a h d := by
  unfold k0_pay4
  pointwise
  simp only [hg, onehot _ _ h rfl, pick (fun h => a h d)]

/-! ## The arrays the call leaves -/

open Idealize.ShloMosaic.TcCoe
open Idealize.SL Idealize.SL.Sem

variable (B : (c : Dev nD) → (b : Ref sig .tc) → Buf (Elt Ideal) ((c : Thread nD τ).loc b))

/-- The call has one point, and every window of it is the whole of its array. -/
theorem idx0 : ∀ t : Fin cfg0.grid.N, (win0_0.index t 0 = 0 ∧ win0_0.index t 1 = 0 ∧ win0_0.index t 2 = 0 ∧ win0_0.index t 3 = 0)
    ∧ (win0_1.index t 0 = 0 ∧ win0_1.index t 1 = 0 ∧ win0_1.index t 2 = 0 ∧ win0_1.index t 3 = 0)
    ∧ (win0_2.index t 0 = 0 ∧ win0_2.index t 1 = 0) ∧ (win0_3.index t 0 = 0 ∧ win0_3.index t 1 = 0) := by decide +kernel

/-- The array of token scores, the outliers' replaced by −1. -/
theorem arr_k (c : Dev nD) (hK : ∀ h d s, B c main_v1 (ix4 0 h d s) = ((K h s d : ℝ) : EReal)) :
    (dat0 B c).arrAt 2 cfg0.N = fun y : S16x2048.Idx => work (kSum K (y 0)) 32 (y 1) := by
  refine (dat0 B c).arrAt_eq_of_covers 2 _ (by decide +kernel) fun t hf y => ?_
  obtain ⟨⟨a0, a1, a2, a3⟩, ⟨b0, b1, b2, b3⟩, ⟨c0, c1⟩, ⟨d0, d1⟩⟩ := idx0 t
  blk_simp
  rw [after0_2]
  unfold outsAt0
  dsimp only
  unfold out0_A_2
  frame_open
  frame_out
  have hy : (((View.whole main_v3_0).slice (win0_2.rect t)).emb y : S16x2048.Idx) = y := by blk_ext [c0, c1]
  rw [hy]
  have hx : ∀ h d s, iblk0 B c 0 t (ix4 0 h d s) = ((K h s d : ℝ) : EReal) := fun h d s => by
    rw [← hK]
    blk_ext [iblk0, a0, a1, a2, a3]
  have := kfold (kSum K) (kSum_nonneg K) _ (ks_apply K _ hx) (y 0) (y 1)
  rw [ix2_eta y] at this
  exact this

/-- The array of channel scores, the outliers' replaced by −1. -/
theorem arr_v (c : Dev nD) (hK : ∀ h d s, B c main_v2 (ix4 0 h d s) = V h s d) :
    (dat0 B c).arrAt 3 cfg0.N = fun y : S64x16.Idx => work (vSum V (y 1)) 8 (y 0) := by
  refine (dat0 B c).arrAt_eq_of_covers 3 _ (by decide +kernel) fun t hf y => ?_
  obtain ⟨⟨a0, a1, a2, a3⟩, ⟨b0, b1, b2, b3⟩, ⟨c0, c1⟩, ⟨d0, d1⟩⟩ := idx0 t
  blk_simp
  rw [after0_3]
  unfold outsAt0
  dsimp only
  unfold out0_A_3
  frame_open
  frame_out
  have hy : (((View.whole main_v3_1).slice (win0_3.rect t)).emb y : S64x16.Idx) = y := by blk_ext [d0, d1]
  rw [hy]
  have hx : ∀ h d s, iblk0 B c 1 t (ix4 0 h d s) = V h s d := fun h d s => by
    rw [← hK]
    blk_ext [iblk0, b0, b1, b2, b3]
  have := flip_apply _ _ (vfold (vSum V) (vSum_nonneg V) _ (vs_apply V _ hx)) (y 0) (y 1)
  rw [ix2_eta y] at this
  exact this

end SparseKV
-- ==== Proof.Attend.lean ====
/- What the attention call leaves in its array, from the arrays it reads: the queries, keys and values with the tokens
   on the last axis, and the two mask arrays. -/
module

public import proofs.«01_k».proof.Proof.Gen.KernelIdeal.Frame
public import proofs.«01_k».proof.Proof.Head
public import Idealize.ShloMosaic.Lib.Pointwise
public import Idealize.ShloMosaic.Lib.Pipeline.ValueKit

@[expose] public section

set_option maxRecDepth 16384

noncomputable section

namespace SparseKV

open Finset Idealize.ShloMosaic Cert.KernelIdeal Cert.KernelIdeal.Gen
open Idealize.ShloMosaic.TcCoe
open Idealize.SL Idealize.SL.Sem

variable (B : (c : Dev nD) → (b : Ref sig .tc) → Buf (Elt Ideal) ((c : Thread nD τ).loc b))
variable (Q K : Arr) (V : Vals) (c : Dev nD)

/-- Point `t` takes the pair `2t`, `2t + 1` of heads; the mask arrays are taken whole. -/
theorem idx1 : ∀ t : Fin cfg1.grid.N, (win1_0.index t 0 = 0 ∧ win1_0.index t 1 = t.val ∧ win1_0.index t 2 = 0 ∧ win1_0.index t 3 = 0)
    ∧ (win1_1.index t 0 = 0 ∧ win1_1.index t 1 = t.val ∧ win1_1.index t 2 = 0 ∧ win1_1.index t 3 = 0)
    ∧ (win1_2.index t 0 = 0 ∧ win1_2.index t 1 = t.val ∧ win1_2.index t 2 = 0 ∧ win1_2.index t 3 = 0)
    ∧ (win1_3.index t 0 = 0 ∧ win1_3.index t 1 = 0) ∧ (win1_4.index t 0 = 0 ∧ win1_4.index t 1 = 0)
    ∧ (win1_5.index t 0 = 0 ∧ win1_5.index t 1 = t.val ∧ win1_5.index t 2 = 0 ∧ win1_5.index t 3 = 0) := by decide +kernel

theorem lt8 : ∀ t : Fin cfg1.grid.N, t.val < 8 := by decide +kernel

/-- The row of the mask array a head of the pair reads. -/
theorem off1 : ∀ t : Fin cfg1.grid.N, (k1_off1 (grid1.coords t) 0#32 0 = 2 * t.val ∧ k1_off1 (grid1.coords t) 0#32 1 = 0)
    ∧ (k1_off1 (grid1.coords t) 1#32 0 = 2 * t.val + 1 ∧ k1_off1 (grid1.coords t) 1#32 1 = 0) := by decide +kernel

/-- The head's number as the kernel computes it. -/
theorem word1 : ∀ t : Fin cfg1.grid.N, (Scalar.addi (Scalar.muli (BitVec.ofNat 32 (grid1.coords t 0).val) 2#32) 0#32 = BitVec.ofNat 32 (2 * t.val))
    ∧ (Scalar.addi (Scalar.muli (BitVec.ofNat 32 (grid1.coords t 0).val) 2#32) 1#32 = BitVec.ofNat 32 (2 * t.val + 1)) := by decide +kernel

/-- A head of the pair at point `t`. -/
def head (t : Fin cfg1.grid.N) (k : Fin 2) : Fin 16 := ⟨2 * t.val + k.val, by have := lt8 t; omega⟩

section Reads
variable (t : Fin cfg1.grid.N)

theorem ldk (hK : ∀ h d s, B c main_v1 (ix4 0 h d s) = ((K h s d : ℝ) : EReal)) (k : Fin 2)
    (inb) (d : Fin 64) (s : Fin 2048) :
    View.ld (iblk1 B c 1 t) (Rect.unit (s := S1x2x64x2048) ![0, k.val, 0, 0] ![1, 1, 64, 2048] inb) (ix4 0 0 d s)
      = ((K (head t k) s d : ℝ) : EReal) := by
  obtain ⟨⟨a0, a1, a2, a3⟩, ⟨b0, b1, b2, b3⟩, ⟨c0, c1, c2, c3⟩, ⟨d0, d1⟩, ⟨e0, e1⟩, ⟨f0, f1, f2, f3⟩⟩ := idx1 t
  refine (View.ld_unit_apply_of (iblk1 B c 1 t) _ _ inb _ (show S1x2x64x2048.Idx from (ix4 0 k d s)) fun a => ?_).trans ?_
  · fin_cases a
    · rfl
    · rfl
    · exact (Nat.zero_add _).symm
    · exact (Nat.zero_add _).symm
  · rw [← hK]
    blk_ext [iblk1, b0, b1, b2, b3, head]

theorem ldv (hV : ∀ h d s, B c main_v2 (ix4 0 h d s) = V h s d) (k : Fin 2)
    (inb) (d : Fin 64) (s : Fin 2048) :
    View.ld (iblk1 B c 2 t) (Rect.unit (s := S1x2x64x2048) ![0, k.val, 0, 0] ![1, 1, 64, 2048] inb) (ix4 0 0 d s)
      = V (head t k) s d := by
  obtain ⟨⟨a0, a1, a2, a3⟩, ⟨b0, b1, b2, b3⟩, ⟨c0, c1, c2, c3⟩, ⟨d0, d1⟩, ⟨e0, e1⟩, ⟨f0, f1, f2, f3⟩⟩ := idx1 t
  refine (View.ld_unit_apply_of (iblk1 B c 2 t) _ _ inb _ (show S1x2x64x2048.Idx from (ix4 0 k d s)) fun a => ?_).trans ?_
  · fin_cases a
    · rfl
    · rfl
    · exact (Nat.zero_add _).symm
    · exact (Nat.zero_add _).symm
  · rw [← hV]
    blk_ext [iblk1, c0, c1, c2, c3, head]

theorem ldq (hQ : ∀ h d s, B c main_v0 (ix4 0 h d s) = ((Q h s d : ℝ) : EReal)) (k : Fin 2) (o : ℕ) (ho : o + 512 ≤ 2048)
    (inb) (d : Fin 64) (x : Fin 512) :
    View.ld (iblk1 B c 0 t) (Rect.unit (s := S1x2x64x2048) ![0, k.val, 0, o] ![1, 1, 64, 512] inb) (ix4 0 0 d x)
      = ((Q (head t k) ⟨o + x.val, by omega⟩ d : ℝ) : EReal) := by
  obtain ⟨⟨a0, a1, a2, a3⟩, ⟨b0, b1, b2, b3⟩, ⟨c0, c1, c2, c3⟩, ⟨d0, d1⟩, ⟨e0, e1⟩, ⟨f0, f1, f2, f3⟩⟩ := idx1 t
  refine (View.ld_unit_apply_of (iblk1 B c 0 t) _ _ inb _ (show S1x2x64x2048.Idx from (ix4 0 k d ⟨o + x.val, by omega⟩)) fun a => ?_).trans ?_
  · fin_cases a
    · rfl
    · rfl
    · exact (Nat.zero_add _).symm
    · rfl
  · rw [← hQ]
    blk_ext [iblk1, a0, a1, a2, a3, head]

theorem ldr0 (hkm : ∀ h s, B c main_v3_0 (ix2 h s) = work (kSum K h) 32 s) (inb) (s : Fin 2048) :
    View.ld (iblk1 B c 3 t) (Rect.unit (s := S16x2048) (k1_off1 (grid1.coords t) 0#32) ![1, 2048] inb) (ix2 0 s)
      = work (kSum K (head t 0)) 32 s := by
  obtain ⟨⟨a0, a1, a2, a3⟩, ⟨b0, b1, b2, b3⟩, ⟨c0, c1, c2, c3⟩, ⟨d0, d1⟩, ⟨e0, e1⟩, ⟨f0, f1, f2, f3⟩⟩ := idx1 t
  obtain ⟨⟨g0, g1⟩, ⟨h0, h1⟩⟩ := off1 t
  refine (View.ld_unit_apply_of (iblk1 B c 3 t) _ _ inb _ (show S16x2048.Idx from ix2 (head t 0) s) fun a => ?_).trans ?_
  · fin_cases a
    · exact g0.symm
    · exact ((congrArg (· + s.val) g1).trans (Nat.zero_add _)).symm
  · rw [← hkm]
    blk_ext [iblk1, d0, d1, head]

theorem ldr1 (hkm : ∀ h s, B c main_v3_0 (ix2 h s) = work (kSum K h) 32 s) (inb) (s : Fin 2048) :
    View.ld (iblk1 B c 3 t) (Rect.unit (s := S16x2048) (k1_off1 (grid1.coords t) 1#32) ![1, 2048] inb) (ix2 0 s)
      = work (kSum K (head t 1)) 32 s := by
  obtain ⟨⟨a0, a1, a2, a3⟩, ⟨b0, b1, b2, b3⟩, ⟨c0, c1, c2, c3⟩, ⟨d0, d1⟩, ⟨e0, e1⟩, ⟨f0, f1, f2, f3⟩⟩ := idx1 t
  obtain ⟨⟨g0, g1⟩, ⟨h0, h1⟩⟩ := off1 t
  refine (View.ld_unit_apply_of (iblk1 B c 3 t) _ _ inb _ (show S16x2048.Idx from ix2 (head t 1) s) fun a => ?_).trans ?_
  · fin_cases a
    · exact h0.symm
    · exact ((congrArg (· + s.val) h1).trans (Nat.zero_add _)).symm
  · rw [← hkm]
    blk_ext [iblk1, d0, d1, head]

theorem blkm (hvm : ∀ d h, B c main_v3_1 (ix2 d h) = work (vSum V h) 8 d) (d : Fin 64) (h : Fin 16) :
    iblk1 B c 4 t (ix2 d h) = work (vSum V h) 8 d := by
  obtain ⟨⟨a0, a1, a2, a3⟩, ⟨b0, b1, b2, b3⟩, ⟨c0, c1, c2, c3⟩, ⟨d0, d1⟩, ⟨e0, e1⟩, ⟨f0, f1, f2, f3⟩⟩ := idx1 t
  rw [← hvm]
  blk_ext [iblk1, e0, e1]

end Reads

/-- One piece of the result, at the array's index. -/
theorem place (t : Fin cfg1.grid.N) (y : S1x2x64x2048.Idx) (k : Fin 2) (d : Fin 64) (s : Fin 2048)
    (h1 : (y 1).val = k.val) (h2 : (y 2).val = d.val) (h3 : (y 3).val = s.val) :
    out Q K V (head t k) s d
      = (fun z : S1x16x64x2048.Idx => out Q K V (z 1) (z 3) (z 2)) (((View.whole main_v4).slice (win1_5.rect t)).emb y) := by
  obtain ⟨⟨a0, a1, a2, a3⟩, ⟨b0, b1, b2, b3⟩, ⟨c0, c1, c2, c3⟩, ⟨d0, d1⟩, ⟨e0, e1⟩, ⟨f0, f1, f2, f3⟩⟩ := idx1 t
  have e : (((View.whole main_v4).slice (win1_5.rect t)).emb y : S1x16x64x2048.Idx) = ix4 0 (head t k) d s := by
    blk_ext [f0, f1, f2, f3, head]
  rw [e]
  rfl

set_option maxHeartbeats 4000000 in
/-- The attention call's array. -/
theorem arr_out (hQ : ∀ h d s, B c main_v0 (ix4 0 h d s) = ((Q h s d : ℝ) : EReal))
    (hK : ∀ h d s, B c main_v1 (ix4 0 h d s) = ((K h s d : ℝ) : EReal))
    (hV : ∀ h d s, B c main_v2 (ix4 0 h d s) = V h s d)
    (hkm : ∀ h s, B c main_v3_0 (ix2 h s) = work (kSum K h) 32 s)
    (hvm : ∀ d h, B c main_v3_1 (ix2 d h) = work (vSum V h) 8 d) :
    (dat1 B c).arrAt 5 cfg1.N = fun z : S1x16x64x2048.Idx => out Q K V (z 1) (z 3) (z 2) := by
  refine (dat1 B c).arrAt_eq_of_covers 5 _ (by decide +kernel) fun t hf y => ?_
  have kr0 := fun i1 i2 => krec0 K (head t 0) _ _ (ldk B K c t hK 0 i1) (ldr0 B K c t hkm i2)
  have kr1 := fun i1 i2 => krec1 K (head t 1) _ _ (ldk B K c t hK 1 i1) (ldr1 B K c t hkm i2)
  have va0 := fun i1 => vaug0 V (head t 0) _ _ (ldv B V c t hV 0 i1)
    (vout0 V (head t 0) (grid1.coords t) _ (word1 t).1 (blkm B V c t hvm))
  have va1 := fun i1 => vaug1 V (head t 1) _ _ (ldv B V c t hV 1 i1)
    (vout1 V (head t 1) _ _ (word1 t).2 (blkm B V c t hvm))
  blk_simp
  rw [after1_5]
  unfold outsAt1
  frame_open
  frame_out
  canon_tiles x h
  all_goals obtain ⟨x0, x1, x2, x3, rfl⟩ : ∃ a b p q, x = ix4 a b p q := ⟨_, _, _, _, (ix4_eta x).symm⟩
  all_goals obtain rfl : x0 = 0 := Subsingleton.elim _ _
  all_goals obtain rfl : x1 = 0 := Subsingleton.elim _ _
  case piece0 =>
    exact (block1_3 Q K V (head t 1) _ _ (kr1 _ _) (va1 _) _ _ (ldq B Q c t hQ 1 1536 (by norm_num) _) x2 x3).trans
      (place Q K V t y 1 _ _ h1 h2 h3)
  case piece1 =>
    exact (block1_2 Q K V (head t 1) _ _ (kr1 _ _) (va1 _) _ _ (ldq B Q c t hQ 1 1024 (by norm_num) _) x2 x3).trans
      (place Q K V t y 1 _ _ h1 h2 h3)
  case piece2 =>
    exact (block1_1 Q K V (head t 1) _ _ (kr1 _ _) (va1 _) _ _ (ldq B Q c t hQ 1 512 (by norm_num) _) x2 x3).trans
      (place Q K V t y 1 _ _ h1 h2 h3)
  case piece3 =>
    exact (block1_0 Q K V (head t 1) _ _ _ (kr1 _ _) (va1 _) _ _ (ldq B Q c t hQ 1 0 (by norm_num) _) x2 x3).trans
      (place Q K V t y 1 _ _ h1 h2 (by simpa using h3))
  case piece4 =>
    exact (block0_3 Q K V (head t 0) _ _ (kr0 _ _) (va0 _) _ _ (ldq B Q c t hQ 0 1536 (by norm_num) _) x2 x3).trans
      (place Q K V t y 0 _ _ h1 h2 h3)
  case piece5 =>
    exact (block0_2 Q K V (head t 0) _ _ (kr0 _ _) (va0 _) _ _ (ldq B Q c t hQ 0 1024 (by norm_num) _) x2 x3).trans
      (place Q K V t y 0 _ _ h1 h2 h3)
  case piece6 =>
    exact (block0_1 Q K V (head t 0) _ _ (kr0 _ _) (va0 _) _ _ (ldq B Q c t hQ 0 512 (by norm_num) _) x2 x3).trans
      (place Q K V t y 0 _ _ h1 h2 h3)
  case piece7 =>
    exact (block0_0 Q K V (head t 0) _ _ _ _ _ _ (kr0 _ _) (va0 _) _ _ (ldq B Q c t hQ 0 0 (by norm_num) _) x2 x3).trans
      (place Q K V t y 0 _ _ h1 h2 (by simpa using h3))

end SparseKV
-- ==== Proof.KernelRun.lean ====
/- The kernel's run: what the result buffer holds at the end, from the argument arrays. -/
module

public import proofs.«01_k».proof.Proof.Masks
public import proofs.«01_k».proof.Proof.Attend
public import Idealize.ShloMosaic.Lib.Claim

@[expose] public section

set_option maxRecDepth 16384

noncomputable section

namespace SparseKV

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg) (c : Dev nD)
variable (Q K : Arr) (V : Vals)

/-! ## The arrays at the boundaries of @main's parts -/

theorem w1_q (h : Fin 16) (d : Fin 64) (s : Fin 2048) :
    W1 m ρ c (Proc.devRef .tc main_v0) (ix4 0 h d s) = m ((c : Thread nD τ).loc main_arg0) (ix4 0 h s d) := by
  unfold W1
  entry_read
  pointwise
theorem w1_k (h : Fin 16) (d : Fin 64) (s : Fin 2048) :
    W1 m ρ c (Proc.devRef .tc main_v1) (ix4 0 h d s) = m ((c : Thread nD τ).loc main_arg1) (ix4 0 h s d) := by
  unfold W1
  entry_read
  pointwise
theorem w1_v (h : Fin 16) (d : Fin 64) (s : Fin 2048) :
    W1 m ρ c (Proc.devRef .tc main_v2) (ix4 0 h d s) = m ((c : Thread nD τ).loc main_arg2) (ix4 0 h s d) := by
  unfold W1
  entry_read
  pointwise
theorem w4_out (h : Fin 16) (s : Fin 2048) (d : Fin 64) :
    W4 m ρ c (Proc.devRef .tc main_v5) (ix4 0 h s d) = W3 m ρ c (Proc.devRef .tc main_v4) (ix4 0 h d s) := by
  unfold W4
  entry_read
  pointwise

/-- The result buffer at the end, where the queries and keys are arrays of reals. -/
theorem w4_eq (hQ : ∀ h s d, m ((c : Thread nD τ).loc main_arg0) (ix4 0 h s d) = ((Q h s d : ℝ) : EReal))
    (hK : ∀ h s d, m ((c : Thread nD τ).loc main_arg1) (ix4 0 h s d) = ((K h s d : ℝ) : EReal))
    (hV : ∀ h s d, m ((c : Thread nD τ).loc main_arg2) (ix4 0 h s d) = V h s d)
    (h : Fin 16) (s : Fin 2048) (d : Fin 64) :
    W4 m ρ c (Proc.devRef .tc main_v5) (ix4 0 h s d) = out Q K V h s d := by
  have k1 : ∀ h d s, V1 m ρ c main_v1 (ix4 0 h d s) = ((K h s d : ℝ) : EReal) := fun h d s => (w1_k m ρ c h d s).trans (hK h s d)
  have v1 : ∀ h d s, V1 m ρ c main_v2 (ix4 0 h d s) = V h s d := fun h d s => (w1_v m ρ c h d s).trans (hV h s d)
  have q2 : ∀ h d s, V2 m ρ c main_v0 (ix4 0 h d s) = ((Q h s d : ℝ) : EReal) := fun h d s =>
    (congrFun (W2_of m ρ c main_v0 (by decide)) _).trans ((w1_q m ρ c h d s).trans (hQ h s d))
  have k2 : ∀ h d s, V2 m ρ c main_v1 (ix4 0 h d s) = ((K h s d : ℝ) : EReal) := fun h d s =>
    (congrFun (W2_of m ρ c main_v1 (by decide)) _).trans (k1 h d s)
  have v2 : ∀ h d s, V2 m ρ c main_v2 (ix4 0 h d s) = V h s d := fun h d s =>
    (congrFun (W2_of m ρ c main_v2 (by decide)) _).trans (v1 h d s)
  have km : ∀ h s, V2 m ρ c main_v3_0 (ix2 h s) = work (kSum K h) 32 s := fun h s =>
    (congrFun ((W2_arr m ρ c 2).trans (arr_k K (V1 m ρ) c k1)) (ix2 h s))
  have vm : ∀ d h, V2 m ρ c main_v3_1 (ix2 d h) = work (vSum V h) 8 d := fun d h =>
    (congrFun ((W2_arr m ρ c 3).trans (arr_v V (V1 m ρ) c v1)) (ix2 d h))
  rw [w4_out]
  exact congrFun ((W3_arr m ρ c 5).trans (arr_out (V2 m ρ) Q K V c q2 k2 v2 km vm)) (ix4 0 h d s)

/-! ## The run -/

set_option backward.isDefEq.respectTransparency.types false in
/-- Every run ends with the result buffer at the last boundary's contents and the arguments as launched. -/
theorem kernel_run : θ_run defs (onTc (τ := τ) (main (F := Ideal))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end SparseKV
-- ==== Proof.RefSort.lean ====
/- The reference's selection operations read at an element: the positions a descending sort leaves, an index word that
   is in range, the two gathers at such a word, and the write of a half of a cache that is then read back. -/
module

public import proofs.«01_k».proof.Proof.Head
public import proofs.«01_k».proof.Proof.Gen.ReferenceIdeal.Read
public import Idealize.ShloMosaic.Lib.Routing.OpsSet

@[expose] public section

set_option maxRecDepth 16384

noncomputable section

namespace SparseKV

open Finset Idealize.ShloMosaic Cert.ReferenceIdeal Cert.ReferenceIdeal.Gen
open Idealize.ShloMosaic.TcCoe Idealize.ShloMosaic.WordCmp

/-! ## The sorted positions -/

/-- The entry at a place of the descending order. -/
def top {n : ℕ} (f : Fin n → EReal) (l : Fin n) : Fin n := sortedFrom (fun a b : Fin n => decide (f b < f a)) l

theorem rank_top {n : ℕ} (f : Fin n → EReal) (l : Fin n) : rank f (top f l) = l := rank_sortedFrom f l

/-- The entry at its own place. -/
theorem top_rank {n : ℕ} (f : Fin n → EReal) (j : Fin n) : top f ⟨rank f j, rank_lt f j⟩ = j :=
  rank_injective f (rank_top f _)

/-- A sum against the indicators of the first `k` entries of the order. -/
theorem top_sum {n k : ℕ} (hk : k ≤ n) (f g : Fin n → EReal) (j : Fin n) :
    ∑ r : Fin k, (((if top f ⟨r.val, r.isLt.trans_le hk⟩ = j then 1 else 0 : ℝ)) : EReal) * g (top f ⟨r.val, r.isLt.trans_le hk⟩)
      = if rank f j < k then g j else 0 := by
  have hr : ∀ r : Fin k, top f ⟨r.val, r.isLt.trans_le hk⟩ = j → rank f j = r.val := fun r e => e ▸ rank_top f _
  split_ifs with h
  · rw [Finset.sum_eq_single_of_mem (⟨rank f j, h⟩ : Fin k) (mem_univ _) fun r _ hne => ?_]
    · rw [show top f ⟨(⟨rank f j, h⟩ : Fin k).val, _⟩ = j from top_rank f j, if_pos rfl, EReal.coe_one, one_mul]
    · rw [if_neg fun e => hne (Fin.ext (hr r e).symm), EReal.coe_zero, zero_mul]
  · refine Finset.sum_eq_zero fun r _ => ?_
    rw [if_neg fun e => h (by rw [hr r e]; exact r.isLt), EReal.coe_zero, zero_mul]

/-- How many of the first `k` entries of the order are the entry. -/
theorem top_count {n k : ℕ} (hk : k ≤ n) (f : Fin n → EReal) (j : Fin n) :
    ∑ r : Fin k, (((if top f ⟨r.val, r.isLt.trans_le hk⟩ = j then 1 else 0 : ℝ)) : EReal)
      = (((if rank f j < k then 1 else 0 : ℝ)) : EReal) := by
  have := top_sum hk f (fun _ => 1) j
  simp only [mul_one] at this
  rw [this]
  split_ifs <;> simp

/-- The comparator on two entries is the order. -/
theorem gt_total (a b : EReal) :
    (FloatOps.cmpfTotal (F := Ideal) (φ := .f32) CmpDirection.gt a b == 1#1) = decide (b < a) := by
  rw [Ideal.cmpfTotal_def]
  by_cases h : b < a
  · simp [Ideal.cmp, CmpDirection.ordered, h]
  · simp [Ideal.cmp, CmpDirection.ordered, h]

/-- The positions a descending sort of rows carries along. -/
theorem sort_pos {n : ℕ} (x : FVec Ideal ⟨3, ![1, 16, n]⟩ .f32) (f : Fin 16 → Fin n → EReal)
    (hx : ∀ h s, x (ix3 0 h s) = f h s) (h : Fin 16) (l : Fin n) :
    (Host.sort2 ⟨3, ![1, 16, n]⟩ 2 (fun l r => FloatOps.cmpfTotal CmpDirection.gt l.1 r.1) x
      fun i => BitVec.ofNat 32 (i 2).val).2 (ix3 0 h l) = BitVec.ofNat 32 (top (f h) l).val := by
  unfold Host.sort2
  have hal : ∀ k : Fin n, (ix3 (0 : Fin 1) h l : (⟨3, ![1, 16, n]⟩ : Shape).Idx).along (2 : Fin 3) k = ix3 0 h k := by
    intro k
    unfold Shape.Idx.along
    funext a
    fin_cases a
    · exact Function.update_of_ne (show (0 : Fin 3) ≠ 2 by decide) _ _
    · exact Function.update_of_ne (show (1 : Fin 3) ≠ 2 by decide) _ _
    · exact Function.update_self _ _ _
  rw [dif_pos (show 2 < 3 by decide)]
  show BitVec.ofNat 32 (((ix3 (0 : Fin 1) h l : (⟨3, ![1, 16, n]⟩ : Shape).Idx).along (2 : Fin 3) (sortedFrom (n := n) _ l)) 2).val = _
  rw [hal]
  show BitVec.ofNat 32 (sortedFrom (n := n) _ l).val = _
  unfold top
  congr 3
  funext a b
  show (FloatOps.cmpfTotal CmpDirection.gt (x (Shape.Idx.along _ _ a)) (x (Shape.Idx.along _ _ b)) == 1#1) = _
  refine Eq.trans (congrArg₂ (fun u v => FloatOps.cmpfTotal (F := Ideal) (φ := .f32) CmpDirection.gt u v == 1#1)
    ((congrArg x (hal a)).trans (hx h a)) ((congrArg x (hal b)).trans (hx h b))) (gt_total _ _)

/-! ## An index word in range -/

/-- A word below the length is not wrapped. -/
theorem wrap_eq (n : BitVec 32) {t : ℕ} (ht : t < 2048) :
    Scalar.select (IntOp.cmpi CmpIPredicate.slt (BitVec.ofNat 32 t) 0#32) (IntOp.addi (BitVec.ofNat 32 t) n) (BitVec.ofNat 32 t)
      = BitVec.ofNat 32 t := by
  rw [sel_eq, if_neg]
  rw [show (0#32 : BitVec 32) = BitVec.ofNat 32 0 from rfl, cmpi_slt_ofNat_eq_one_iff (by omega) (by decide)]
  omega

/-- A word between zero and the last position passes the range check. -/
theorem in_range {t n : ℕ} (ht : t ≤ n) (hn : n < 2048) :
    IntOp.andi (IntOp.cmpi CmpIPredicate.sge (BitVec.ofNat 32 t) 0#32) (IntOp.cmpi CmpIPredicate.sle (BitVec.ofNat 32 t) (BitVec.ofNat 32 n)) = 1#1 := by
  rw [show (0#32 : BitVec 32) = BitVec.ofNat 32 0 from rfl, cmpi_sge_ofNat (by omega) (by decide), cmpi_sle_ofNat (by omega) (by omega)]
  simp [ht]; decide

/-- The indicator of two words below the length. -/
theorem indicator {a b : ℕ} (ha : a < 2048) (hb : b < 2048) :
    FloatOps.uitofp (F := Ideal) FTy.f32 (IntOp.cmpi CmpIPredicate.eq (BitVec.ofNat 32 a) (BitVec.ofNat 32 b))
      = (((if a = b then 1 else 0 : ℝ)) : EReal) := by
  rw [cmpi_eq_ofNat (by omega) (by omega)]
  by_cases h : a = b
  · simp [h, FloatOps.uitofp]
  · simp [h, FloatOps.uitofp]

theorem toInt_small {t : ℕ} (ht : t < 2048) : (BitVec.ofNat 32 t).toInt.toNat = t := by
  rw [toInt_ofNat_of_lt (by omega)]; rfl

/-! ## The gathers -/

/-- The gather of token rows. -/
theorem gather_rows (x : FVec Ideal S1x16x2048x64 .f32) (idx : IVec S16x32x1 32) (h : Fin 16) (r : Fin 32) (d : Fin 64) (t : Fin 2048)
    (ht : idx (ix3 h r 0) = BitVec.ofNat 32 t.val) :
    Host.gather gather_S1x16x2048x64_S16x32x1_S1x16x32x64_03_2_1_0_2_2_11164 x idx (ix4 0 h r d) = x (ix4 0 h t d) := by
  unfold Host.gather
  refine congrArg x (funext fun a => Fin.ext ?_)
  fin_cases a
  · rfl
  · show 0 + h.val + 0 = h.val; omega
  · show min (idx _).toInt.toNat 2047 + 0 + 0 = t.val
    rw [show idx _ = idx (ix3 h r 0) from congrArg idx (funext fun b => by fin_cases b <;> rfl), ht, toInt_small t.isLt]
    omega
  · show 0 + 0 + d.val = d.val; omega

/-- The gather of channel columns. -/
theorem gather_cols (x : FVec Ideal S1x16x2048x64 .f32) (idx : IVec S16x8x1 32) (h : Fin 16) (s : Fin 2048) (r : Fin 8) (t : Fin 64)
    (ht : idx (ix3 h r 0) = BitVec.ofNat 32 t.val) :
    Host.gather gather_S1x16x2048x64_S16x8x1_S1x16x2048x8_02_3_1_0_3_2_1120481 x idx (ix4 0 h s r) = x (ix4 0 h s t) := by
  unfold Host.gather
  refine congrArg x (funext fun a => Fin.ext ?_)
  fin_cases a
  · rfl
  · show 0 + h.val + 0 = h.val; omega
  · show 0 + 0 + s.val = s.val; omega
  · show min (idx _).toInt.toNat 63 + 0 + 0 = t.val
    rw [show idx _ = idx (ix3 h r 0) from congrArg idx (funext fun b => by fin_cases b <;> rfl), ht, toInt_small (by omega)]
    omega

/-! ## The cache's first half -/

/-- What is written from position zero, read back there. -/
theorem scatter_half (x : FVec Ideal S1x16x4096x64 .f32) (idx : IVec S1 32) (hi : idx (ix1 0) = 0#32) (u : FVec Ideal S1x16x2048x64 .f32)
    (h : Fin 16) (s : Fin 2048) (d : Fin 64) :
    Host.scatter scatter_S1x16x4096x64_S1_S1x16x2048x64_0123_n_2_0 (fun _ b => b) x idx u (ix4 0 h ⟨s.val, by omega⟩ d) = u (ix4 0 h s d) := by
  have hst : ∀ (k : S1x16x2048x64.Idx) (a : Fin 4), scatter_S1x16x4096x64_S1_S1x16x2048x64_0123_n_2_0.start k idx a = 0 := by
    intro k a
    fin_cases a
    · rfl
    · rfl
    · show (idx _).toInt = 0
      rw [show idx _ = idx (ix1 0) from congrArg idx (funext fun b => by fin_cases b; rfl), hi]; rfl
    · rfl
  have hwin : ∀ (k : S1x16x2048x64.Idx) (a : Fin 4), scatter_S1x16x4096x64_S1_S1x16x2048x64_0123_n_2_0.window k a = (k a).val := by
    intro k a; fin_cases a <;> rfl
  refine Routing.scatter_set_hit _ x idx u _ _ (fun k hk => ?_) (ix4 0 h s d) ?_
  · have := (Routing.resultIdx?_eq_some _ k idx _).1 hk
    refine congrArg u (funext fun a => Fin.ext ?_)
    have ha := this a
    rw [hst, hwin] at ha
    have ha' : (k a).val = ((ix4 0 h ⟨s.val, by omega⟩ d : S1x16x4096x64.Idx) a).val := by omega
    rw [ha']
    fin_cases a <;> rfl
  · refine (Routing.resultIdx?_eq_some _ _ idx _).2 fun a => ?_
    rw [hst, hwin]
    fin_cases a <;> simp <;> rfl

end SparseKV
-- ==== Proof.RefKeys.lean ====
/- The reference's selection of K's outlier tokens: the token scores, the positions of the thirty-two greatest, the
   rows gathered there, the indicator of a position, and K with those rows set to zero. -/
module

public import proofs.«01_k».proof.Proof.RefSort

@[expose] public section

set_option maxRecDepth 16384

noncomputable section

namespace SparseKV

open Finset Idealize.ShloMosaic Cert.ReferenceIdeal Cert.ReferenceIdeal.Gen Cert.ReferenceIdeal.Read
open Idealize.ShloMosaic.TcCoe

variable (K : Arr) (x : FVec Ideal S1x16x2048x64 .f32) (hx : ∀ h s d, x (ix4 0 h s d) = ((K h s d : ℝ) : EReal))

/-- The outlier token at a place of the order. -/
def tok (h : Fin 16) (r : Fin 32) : Fin 2048 := top (kSum K h) ⟨r.val, by omega⟩

include hx

theorem rk_sum (h : Fin 16) (s : Fin 2048) : val_main_v1 (F := Ideal) x (ix3 0 h s) = kSum K h s := by
  unfold val_main_v1 val_main_v0 val_main_cst
  pointwise
  simp only [hx, absf_coe, ← coe_sum]
  simp [kSum]

theorem rk_index (h : Fin 16) (r : Fin 32) : val_main_indices (F := Ideal) x (ix3 0 h r) = BitVec.ofNat 32 (tok K h r).val := by
  unfold val_main_indices Host.topK
  pointwise
  exact sort_pos (n := 2048) (val_main_v1 (F := Ideal) x) (kSum K) (rk_sum K x hx) h ⟨r.val, by omega⟩

theorem rk_word (h : Fin 16) (r : Fin 32) : val_main_call0_v5 (F := Ideal) x (ix3 h r 0) = BitVec.ofNat 32 (tok K h r).val := by
  unfold val_main_call0_v5 val_main_call0_v4 val_main_call0_v3 val_main_call0_v1 val_main_call0_v0 val_main_call0_v2 val_main_v2
    val_main_call0_c val_main_call0_c_0
  pointwise
  rw [rk_index K x hx]
  exact wrap_eq _ (tok K h r).isLt

theorem rk_check (h : Fin 16) (r : Fin 32) : val_main_call0_v12 (F := Ideal) x (ix2 h r) = 1#1 := by
  unfold val_main_call0_v12
  pointwise
  rw [show (univ : Finset (Fin 1)) = {0} from rfl, Finset.fold_singleton]
  unfold val_main_call0_v11 val_main_call0_v7 val_main_call0_v10 val_main_call0_v6 val_main_call0_v9 val_main_call0_v8
    val_main_call0_c_1 val_main_call0_c_2 val_main_call0_c_3
  pointwise
  rw [rk_word K x hx, show (2047#32 : BitVec 32) = BitVec.ofNat 32 2047 from rfl, in_range (by omega) (by decide)]
  decide

/-- The gathered rows. -/
theorem rk_rows (h : Fin 16) (r : Fin 32) (d : Fin 64) :
    val_main_v3 (F := Ideal) x (ix4 0 h r d) = ((K h (tok K h r) d : ℝ) : EReal) := by
  unfold val_main_v3 val_main_call0_v14 val_main_call0_v13
  pointwise
  rw [rk_check K x hx, sel_eq, if_pos rfl, gather_rows x _ h r d (tok K h r) (rk_word K x hx h r), hx]

/-- The indicator of an outlier token's position. -/
theorem rk_hot (h : Fin 16) (r : Fin 32) (s : Fin 2048) :
    val_main_v4 (F := Ideal) x (ix4 0 h r s) = (((if tok K h r = s then 1 else 0 : ℝ)) : EReal) := by
  unfold val_main_v4 val_main_call1_v4 val_main_call1_v3 val_main_call1_v2 val_main_call1_v1 val_main_call1_v0
  pointwise
  rw [rk_index K x hx, indicator (tok K h r).isLt s.isLt]
  simp only [Fin.ext_iff]

/-- The mask over the tokens. -/
theorem rk_mask (h : Fin 16) (s : Fin 2048) :
    val_main_v5 (F := Ideal) x (ix3 0 h s) = (((if rank (kSum K h) s < 32 then 1 else 0 : ℝ)) : EReal) := by
  unfold val_main_v5 val_main_cst_0
  pointwise
  simp only [rk_hot K x hx]
  exact top_count (k := 32) (by decide) (kSum K h) s

/-- K without its outlier tokens. -/
theorem rk_dense (h : Fin 16) (s : Fin 2048) (d : Fin 64) :
    val_main_v10 (F := Ideal) x (ix4 0 h s d) = ((kDense K h s d : ℝ) : EReal) := by
  unfold val_main_v10 val_main_v9 val_main_v8 val_main_v7 val_main_v6 val_main_cst_1
  pointwise
  rw [rk_mask K x hx, hx]
  rw [show (1 : EReal) = ((1 : ℝ) : EReal) from rfl, ← EReal.coe_sub, ← EReal.coe_mul]
  unfold kDense
  congr 1
  split_ifs <;> simp

/-- The outlier rows put back at their positions. -/
theorem rk_sparse (h : Fin 16) (s : Fin 2048) (d : Fin 64) :
    val_main_v56 (F := Ideal) x (ix4 0 h s d) = (((if rank (kSum K h) s < 32 then K h s d else 0 : ℝ)) : EReal) := by
  unfold val_main_v56
  pointwise
  simp only [rk_hot K x hx, rk_rows K x hx]
  refine (top_sum (k := 32) (by decide) (kSum K h) (fun t => ((K h t d : ℝ) : EReal)) s).trans ?_
  split_ifs <;> simp

end SparseKV
-- ==== Proof.RefVals.lean ====
/- The reference's selection of V's outlier channels: the channel scores, the positions of the eight greatest, the
   columns gathered there, the indicator of a position, and V with those columns set to zero. -/
module

public import proofs.«01_k».proof.Proof.RefSort

@[expose] public section

set_option maxRecDepth 16384

noncomputable section

namespace SparseKV

open Finset Idealize.ShloMosaic Cert.ReferenceIdeal Cert.ReferenceIdeal.Gen Cert.ReferenceIdeal.Read
open Idealize.ShloMosaic.TcCoe

variable (V : Vals) (x : FVec Ideal S1x16x2048x64 .f32) (hx : ∀ h s d, x (ix4 0 h s d) = V h s d)

/-- The outlier channel at a place of the order. -/
def chan (h : Fin 16) (r : Fin 8) : Fin 64 := top (vSum V h) ⟨r.val, by omega⟩

include hx

theorem rv_sum (h : Fin 16) (d : Fin 64) : val_main_v12 (F := Ideal) x (ix3 0 h d) = vSum V h d := by
  unfold val_main_v12 val_main_v11 val_main_cst_2
  pointwise
  simp only [hx, absf_mag]
  simp [vSum]

theorem rv_index (h : Fin 16) (r : Fin 8) : val_main_indices_4 (F := Ideal) x (ix3 0 h r) = BitVec.ofNat 32 (chan V h r).val := by
  unfold val_main_indices_4 Host.topK
  pointwise
  exact sort_pos (n := 64) (val_main_v12 (F := Ideal) x) (vSum V) (rv_sum V x hx) h ⟨r.val, by omega⟩

theorem rv_word (h : Fin 16) (r : Fin 8) : val_main_call2_v5 (F := Ideal) x (ix3 h r 0) = BitVec.ofNat 32 (chan V h r).val := by
  unfold val_main_call2_v5 val_main_call2_v4 val_main_call2_v3 val_main_call2_v1 val_main_call2_v0 val_main_call2_v2 val_main_v13
    val_main_call2_c val_main_call2_c_0
  pointwise
  rw [rv_index V x hx]
  exact wrap_eq _ ((chan V h r).isLt.trans (by decide))

theorem rv_check (h : Fin 16) (r : Fin 8) : val_main_call2_v12 (F := Ideal) x (ix2 h r) = 1#1 := by
  unfold val_main_call2_v12
  pointwise
  rw [show (univ : Finset (Fin 1)) = {0} from rfl, Finset.fold_singleton]
  unfold val_main_call2_v11 val_main_call2_v7 val_main_call2_v10 val_main_call2_v6 val_main_call2_v9 val_main_call2_v8
    val_main_call2_c_1 val_main_call2_c_2 val_main_call2_c_3
  pointwise
  rw [rv_word V x hx, show (63#32 : BitVec 32) = BitVec.ofNat 32 63 from rfl, in_range (by omega) (by decide)]
  decide

/-- The gathered columns. -/
theorem rv_cols (h : Fin 16) (s : Fin 2048) (r : Fin 8) :
    val_main_v14 (F := Ideal) x (ix4 0 h s r) = V h s (chan V h r) := by
  unfold val_main_v14 val_main_call2_v14 val_main_call2_v13
  pointwise
  rw [rv_check V x hx, sel_eq, if_pos rfl, gather_cols x _ h s r (chan V h r) (rv_word V x hx h r), hx]

/-- The indicator of an outlier channel's position. -/
theorem rv_hot (h : Fin 16) (r : Fin 8) (d : Fin 64) :
    val_main_v15 (F := Ideal) x (ix4 0 h r d) = (((if chan V h r = d then 1 else 0 : ℝ)) : EReal) := by
  unfold val_main_v15 val_main_call3_v4 val_main_call3_v3 val_main_call3_v2 val_main_call3_v1 val_main_call3_v0
  pointwise
  rw [rv_index V x hx, indicator ((chan V h r).isLt.trans (by decide)) (d.isLt.trans (by decide))]
  simp only [Fin.ext_iff]

/-- The mask over the channels. -/
theorem rv_mask (h : Fin 16) (d : Fin 64) :
    val_main_v16 (F := Ideal) x (ix3 0 h d) = (((if rank (vSum V h) d < 8 then 1 else 0 : ℝ)) : EReal) := by
  unfold val_main_v16 val_main_cst_5
  pointwise
  simp only [rv_hot V x hx]
  exact top_count (k := 8) (by decide) (vSum V h) d

/-- V without its outlier channels. -/
theorem rv_dense (h : Fin 16) (s : Fin 2048) (d : Fin 64) :
    val_main_v21 (F := Ideal) x (ix4 0 h s d) = vDense V h s d := by
  unfold val_main_v21 val_main_v20 val_main_v19 val_main_v18 val_main_v17 val_main_cst_6
  pointwise
  rw [rv_mask V x hx, hx]
  rw [show (1 : EReal) = ((1 : ℝ) : EReal) from rfl, ← EReal.coe_sub]
  unfold vDense
  split_ifs <;> simp

/-- The outlier columns put back at their positions. -/
theorem rv_sparse (h : Fin 16) (s : Fin 2048) (d : Fin 64) :
    val_main_v62 (F := Ideal) x (ix4 0 h s d) = if rank (vSum V h) d < 8 then V h s d else 0 := by
  unfold val_main_v62
  pointwise
  simp only [rv_hot V x hx, rv_cols V x hx]
  simp only [mul_comm (V h s _)]
  exact (top_sum (k := 8) (by decide) (vSum V h) (fun t => V h s t) d)

end SparseKV
-- ==== Proof.RefQuant.lean ====
/- The reference's caches: the scales, the quantised entries, what is read back of them, and K and V put together again
   from the dense part and the outliers. -/
module

public import proofs.«01_k».proof.Proof.RefKeys
public import proofs.«01_k».proof.Proof.RefVals

@[expose] public section

set_option maxRecDepth 16384

noncomputable section

namespace SparseKV

open Finset Idealize.ShloMosaic Cert.ReferenceIdeal Cert.ReferenceIdeal.Gen Cert.ReferenceIdeal.Read
open Idealize.ShloMosaic.TcCoe

/-! ## Scalar steps -/

/-- The maximum over the tokens. -/
theorem max_tokens (y : FVec Ideal S1x16x2048x64 .f32) (i : FVec Ideal S_ .f32) (h : Fin 16) (d : Fin 64) :
    Host.reduce FloatOps.maximumf y i reducesTo_S1x16x2048x64_S1x16x64_d2 h_S_ (ix3 0 h d)
      = univ.fold max (i (Shape.Idx.first h_S_)) fun s : Fin 2048 => y (ix4 0 h s d) := by
  pointwise

/-- The maximum over the channels. -/
theorem max_channels (y : FVec Ideal S1x16x2048x64 .f32) (i : FVec Ideal S_ .f32) (h : Fin 16) (s : Fin 2048) :
    Host.reduce FloatOps.maximumf y i reducesTo_S1x16x2048x64_S1x16x2048_d3 h_S_ (ix3 0 h s)
      = univ.fold max (i (Shape.Idx.first h_S_)) fun d : Fin 64 => y (ix4 0 h s d) := by
  pointwise

/-- An entry divided by its scale, times seven, rounded, and held between −7 and 7. -/
def level (x s : ℝ) : ℝ := min 7 (max (-7) ((Ideal.roundHalfEven (x / s * 7) : ℤ) : ℝ))

theorem level_scalar (x : ℝ) {s : ℝ} (hs : 0 < s) :
    min ((7 : ℝ) : EReal) (max ((-7 : ℝ) : EReal) (Ideal.liftRound Ideal.roundHalfEven
      (Ideal.div (x : EReal) (s : EReal) * ((7 : ℝ) : EReal)))) = ((level x s : ℝ) : EReal) := by
  rw [div_real _ hs.ne', ← EReal.coe_mul, Ideal.liftRound_coe, ← coe_max, ← coe_min]; rfl

theorem back_scalar (x s : ℝ) :
    Ideal.div ((level x s : ℝ) : EReal) ((7 : ℝ) : EReal) * ((s : ℝ) : EReal) = ((rq x s : ℝ) : EReal) := by
  rw [div_real _ (by norm_num), ← EReal.coe_mul]; rfl

/-- Zero is read back as zero. -/
theorem rq_zero (s : ℝ) : rq 0 s = 0 := by
  have : Ideal.roundHalfEven (0 : ℝ) = 0 := by simp [Ideal.roundHalfEven]
  simp [rq, this]

/-- The level of an entry at a scale, either of which may be infinite. -/
def levelx (x s : EReal) : EReal :=
  min ((7 : ℝ) : EReal) (max ((-7 : ℝ) : EReal) (Ideal.liftRound Ideal.roundHalfEven (Ideal.div x s * ((7 : ℝ) : EReal))))

/-- Zero is read back as zero at every scale. -/
theorem rqx_zero (s : EReal) (hs : s ≠ 0) : rqx 0 s = 0 := by
  have h0 : Ideal.roundHalfEven (0 : ℝ) = 0 := by simp [Ideal.roundHalfEven]
  have h1 : Ideal.div 0 s = ((0 : ℝ) : EReal) := by unfold Ideal.div; rw [if_neg hs, zero_mul, EReal.coe_zero]
  unfold rqx
  rw [h1, ← EReal.coe_mul, zero_mul, Ideal.liftRound_coe, h0, ← coe_max, ← coe_min, div_real _ (by norm_num)]
  norm_num

/-! ## K -/

section Keys

variable (K : Arr) (x : FVec Ideal S1x16x2048x64 .f32) (hx : ∀ h s d, x (ix4 0 h s d) = ((K h s d : ℝ) : EReal))
include hx

theorem rk_abs (h : Fin 16) (s : Fin 2048) (d : Fin 64) :
    val_main_v22 (F := Ideal) x (ix4 0 h s d) = ((|kDense K h s d| : ℝ) : EReal) := by
  unfold val_main_v22
  pointwise
  rw [rk_dense K x hx, absf_coe]

theorem rk_max (h : Fin 16) (d : Fin 64) :
    val_main_v23 (F := Ideal) x (ix3 0 h d) = ((amax (fun s => kDense K h s d) : ℝ) : EReal) := by
  unfold val_main_v23 val_main_cst_7
  rw [max_tokens]
  simp only [rk_abs K x hx]
  exact (congrArg (fun b => univ.fold max b _) lit_neg_inf).trans (fold_max_coe fun s => |kDense K h s d|)

theorem rk_scale (h : Fin 16) (d : Fin 64) :
    val_main_v26 (F := Ideal) x (ix4 0 h 0 d) = ((kScale K h d : ℝ) : EReal) := by
  have e1 : val_main_v24 (F := Ideal) x (ix4 0 h 0 d) = val_main_v23 (F := Ideal) x (ix3 0 h d) := by
    unfold val_main_v24
    generalize val_main_v23 (F := Ideal) x = y
    pointwise
  have e2 : val_main_v25 (F := Ideal) (ix4 0 h 0 d) = ((eps : ℝ) : EReal) := by
    unfold val_main_v25 val_main_cst_8
    pointwise
    exact lit_eps
  rw [val_main_v26_apply, e1, e2, rk_max K x hx]
  exact (EReal.coe_add _ _).symm

theorem rk_level (h : Fin 16) (s : Fin 2048) (d : Fin 64) :
    val_main_v37 (F := Ideal) x (ix4 0 h s d) = ((level (kDense K h s d) (kScale K h d) : ℝ) : EReal) := by
  have e1 : val_main_v32 (F := Ideal) x (ix4 0 h s d) = val_main_v26 (F := Ideal) x (ix4 0 h 0 d) := by
    unfold val_main_v32
    generalize val_main_v26 (F := Ideal) x = y
    pointwise
  have e2 : val_main_v34 (F := Ideal) (ix4 0 h s d) = ((7 : ℝ) : EReal) := by
    unfold val_main_v34 val_main_cst_11
    pointwise
    exact lit_7
  have e3 : val_main_call5_v1 (F := Ideal) (ix4 0 h s d) = ((-7 : ℝ) : EReal) := by
    unfold val_main_call5_v1 val_main_call5_v0
    pointwise
    exact lit_m7
  have e4 : val_main_call5_v4 (F := Ideal) (ix4 0 h s d) = ((7 : ℝ) : EReal) := by
    unfold val_main_call5_v4 val_main_call5_v3
    pointwise
    exact lit_7
  rw [val_main_v37_apply, val_main_call5_v2_apply, val_main_v36_apply, val_main_v35_apply, val_main_v33_apply, e1, e2, e3, e4, rk_dense K x hx,
    rk_scale K x hx]
  exact level_scalar _ (kScale_pos K h d)

theorem rk_cache (h : Fin 16) (s : Fin 2048) (d : Fin 64) :
    val_main_v50 (F := Ideal) x (ix4 0 h s d) = ((level (kDense K h s d) (kScale K h d) : ℝ) : EReal) := by
  unfold val_main_v50 val_main_v46
  pointwise
  rw [scatter_half _ _ ?_ _ h s d, rk_level K x hx]
  unfold val_main_v45 val_main_c
  pointwise

theorem rk_rec (h : Fin 16) (s : Fin 2048) (d : Fin 64) :
    val_main_v57 (F := Ideal) x (ix4 0 h s d) = ((kRec K h s d : ℝ) : EReal) := by
  unfold val_main_v57 val_main_v55 val_main_v54 val_main_v53 val_main_v52 val_main_cst_20
  have e := rk_cache K x hx h s d
  have e' := rk_scale K x hx h d
  have e'' := rk_sparse K x hx h s d
  generalize val_main_v50 (F := Ideal) x = y at e ⊢
  generalize val_main_v26 (F := Ideal) x = z at e' ⊢
  generalize val_main_v56 (F := Ideal) x = w at e'' ⊢
  pointwise
  rw [e, e', e'']
  refine (congrArg (· + _) ((congrArg (fun b => Ideal.div _ b * _) lit_7).trans (back_scalar _ _))).trans ?_
  rw [← EReal.coe_add]
  unfold kRec
  congr 1
  split_ifs with hr
  · unfold kDense; rw [if_pos hr, rq_zero, zero_add]
  · rw [add_zero]

end Keys

/-! ## V -/

section Values

variable (V : Vals) (x : FVec Ideal S1x16x2048x64 .f32) (hx : ∀ h s d, x (ix4 0 h s d) = V h s d)
include hx

theorem rv_abs (h : Fin 16) (s : Fin 2048) (d : Fin 64) :
    val_main_v27 (F := Ideal) x (ix4 0 h s d) = max (vDense V h s d) (-vDense V h s d) := by
  unfold val_main_v27
  pointwise
  rw [rv_dense V x hx, absf_mag]

theorem rv_max (h : Fin 16) (s : Fin 2048) :
    val_main_v28 (F := Ideal) x (ix3 0 h s) = univ.fold max ⊥ fun d => max (vDense V h s d) (-vDense V h s d) := by
  unfold val_main_v28 val_main_cst_9
  rw [max_channels]
  simp only [rv_abs V x hx]
  exact congrArg (fun b => univ.fold max b _) lit_neg_inf

theorem rv_scale (h : Fin 16) (s : Fin 2048) :
    val_main_v31 (F := Ideal) x (ix4 0 h s 0) = vScale V h s := by
  have e1 : val_main_v29 (F := Ideal) x (ix4 0 h s 0) = val_main_v28 (F := Ideal) x (ix3 0 h s) := by
    unfold val_main_v29
    generalize val_main_v28 (F := Ideal) x = y
    pointwise
  have e2 : val_main_v30 (F := Ideal) (ix4 0 h s 0) = ((eps : ℝ) : EReal) := by
    unfold val_main_v30 val_main_cst_10
    pointwise
    exact lit_eps
  rw [val_main_v31_apply, e1, e2, rv_max V x hx]
  rfl

theorem rv_level (h : Fin 16) (s : Fin 2048) (d : Fin 64) :
    val_main_v43 (F := Ideal) x (ix4 0 h s d) = levelx (vDense V h s d) (vScale V h s) := by
  have e1 : val_main_v38 (F := Ideal) x (ix4 0 h s d) = val_main_v31 (F := Ideal) x (ix4 0 h s 0) := by
    unfold val_main_v38
    generalize val_main_v31 (F := Ideal) x = y
    pointwise
  have e2 : val_main_v40 (F := Ideal) (ix4 0 h s d) = ((7 : ℝ) : EReal) := by
    unfold val_main_v40 val_main_cst_14
    pointwise
    exact lit_7
  have e3 : val_main_call7_v1 (F := Ideal) (ix4 0 h s d) = ((-7 : ℝ) : EReal) := by
    unfold val_main_call7_v1 val_main_call7_v0
    pointwise
    exact lit_m7
  have e4 : val_main_call7_v4 (F := Ideal) (ix4 0 h s d) = ((7 : ℝ) : EReal) := by
    unfold val_main_call7_v4 val_main_call7_v3
    pointwise
    exact lit_7
  rw [val_main_v43_apply, val_main_call7_v2_apply, val_main_v42_apply, val_main_v41_apply, val_main_v39_apply, e1, e2, e3, e4, rv_dense V x hx,
    rv_scale V x hx]
  rfl

theorem rv_cache (h : Fin 16) (s : Fin 2048) (d : Fin 64) :
    val_main_v51 (F := Ideal) x (ix4 0 h s d) = levelx (vDense V h s d) (vScale V h s) := by
  unfold val_main_v51 val_main_v49
  pointwise
  rw [scatter_half _ _ ?_ _ h s d, rv_level V x hx]
  unfold val_main_v48 val_main_c_19
  pointwise

theorem rv_rec (h : Fin 16) (s : Fin 2048) (d : Fin 64) :
    val_main_v63 (F := Ideal) x (ix4 0 h s d) = vRec V h s d := by
  unfold val_main_v63 val_main_v61 val_main_v60 val_main_v59 val_main_v58 val_main_cst_21
  have e := rv_cache V x hx h s d
  have e' := rv_scale V x hx h s
  have e'' := rv_sparse V x hx h s d
  generalize val_main_v51 (F := Ideal) x = y at e ⊢
  generalize val_main_v31 (F := Ideal) x = z at e' ⊢
  generalize val_main_v62 (F := Ideal) x = w at e'' ⊢
  pointwise
  rw [e, e', e'']
  refine (congrArg (fun b => Ideal.div _ b * _ + _) lit_7).trans ?_
  show rqx _ _ + _ = _
  unfold vRec
  split_ifs with hr
  · unfold vDense; rw [if_pos hr, rqx_zero _ (vScale_ne V h s), zero_add]
  · rw [add_zero]

end Values

end SparseKV
-- ==== Proof.RefAttend.lean ====
/- The reference's attention over the keys and values it put together: the scores, the softmax shifted by the greatest
   score, and the result, which is the unshifted quotient. -/
module

public import proofs.«01_k».proof.Proof.RefQuant

@[expose] public section

set_option maxRecDepth 16384

noncomputable section

namespace SparseKV

open Finset Idealize.ShloMosaic Cert.ReferenceIdeal Cert.ReferenceIdeal.Gen Cert.ReferenceIdeal.Read
open Idealize.ShloMosaic.TcCoe

/-- The maximum over the keys. -/
theorem max_keys (y : FVec Ideal S1x16x2048x2048 .f32) (i : FVec Ideal S_ .f32) (h : Fin 16) (s : Fin 2048) :
    Host.reduce FloatOps.maximumf y i reducesTo_S1x16x2048x2048_S1x16x2048_d3 h_S_ (ix3 0 h s)
      = univ.fold max (i (Shape.Idx.first h_S_)) fun j : Fin 2048 => y (ix4 0 h s j) := by
  pointwise

/-- A softmax weight does not depend on the number taken from every score. -/
theorem shift_weight {n : ℕ} (a : Fin n → ℝ) (M : ℝ) (j : Fin n) :
    Real.exp (a j - M) / (∑ i, Real.exp (a i - M)) = Real.exp (a j) * (1 / ∑ i, Real.exp (a i)) := by
  have hM : Real.exp (-M) ≠ 0 := (Real.exp_pos _).ne'
  have e : ∀ j, Real.exp (a j - M) = Real.exp (a j) * Real.exp (-M) := fun j => by rw [← Real.exp_add]; rfl
  simp only [e]
  rw [← Finset.sum_mul, mul_div_mul_right _ _ hM, mul_one_div]

/-- Nor does the average of values, finite or not. -/
theorem shift_free {n : ℕ} (a : Fin n → ℝ) (v : Fin n → EReal) (M : ℝ) :
    ∑ j, ((Real.exp (a j - M) / (∑ i, Real.exp (a i - M)) : ℝ) : EReal) * v j
      = (∑ j, v j * ((Real.exp (a j) : ℝ) : EReal)) * ((1 / ∑ i, Real.exp (a i) : ℝ) : EReal) := by
  rw [sum_mul_coe _ _ (one_div_nonneg.2 (Finset.sum_nonneg fun i _ => (Real.exp_pos _).le))]
  refine Finset.sum_congr rfl fun j _ => ?_
  rw [shift_weight, mul_assoc, ← EReal.coe_mul, mul_comm]

variable (Q K : Arr) (V : Vals) (q k v : FVec Ideal S1x16x2048x64 .f32)
  (hq : ∀ h s d, q (ix4 0 h s d) = ((Q h s d : ℝ) : EReal)) (hk : ∀ h s d, k (ix4 0 h s d) = ((K h s d : ℝ) : EReal))
  (hv : ∀ h s d, v (ix4 0 h s d) = V h s d)

/-- The greatest score of a query. -/
def peak (h : Fin 16) (i : Fin 2048) : ℝ := univ.sup' univ_nonempty fun j : Fin 2048 => score Q K h i j

include hq hk

theorem ra_score (h : Fin 16) (i j : Fin 2048) :
    val_main_v66 (F := Ideal) q k (ix4 0 h i j) = ((score Q K h i j : ℝ) : EReal) := by
  have e1 : val_main_v64 (F := Ideal) q k (ix4 0 h i j) = (((∑ d, Q h i d * kRec K h j d : ℝ)) : EReal) := by
    unfold val_main_v64
    have e := rk_rec K k hk h j
    generalize val_main_v57 (F := Ideal) k = y at e ⊢
    pointwise
    simp only [e, hq, ← EReal.coe_mul, ← coe_sum]
  have e2 : val_main_v65 (F := Ideal) (ix4 0 h i j) = ((8 : ℝ) : EReal) := by
    unfold val_main_v65 val_main_cst_22
    pointwise
    exact lit_8
  rw [val_main_v66_apply, e1, e2]
  exact div_real _ (by norm_num)

theorem ra_peak (h : Fin 16) (i : Fin 2048) :
    val_main_v69 (F := Ideal) q k (ix3 0 h i) = ((peak Q K h i : ℝ) : EReal) := by
  have e1 : val_main_v67 (F := Ideal) q k (ix3 0 h i) = ((peak Q K h i : ℝ) : EReal) := by
    unfold val_main_v67 val_main_cst_23
    rw [max_keys]
    simp only [ra_score Q K q k hq hk]
    exact (congrArg (fun b => univ.fold max b _) lit_neg_inf).trans (fold_max_coe fun j => score Q K h i j)
  have e2 : val_main_v68 (F := Ideal) (ix3 0 h i) = ⊥ := by
    unfold val_main_v68 val_main_cst_24
    pointwise
    exact lit_neg_inf
  rw [val_main_v69_apply, e1, e2]
  exact max_eq_right bot_le

theorem ra_exp (h : Fin 16) (i j : Fin 2048) :
    val_main_v73 (F := Ideal) q k (ix4 0 h i j) = ((Real.exp (score Q K h i j - peak Q K h i) : ℝ) : EReal) := by
  have e1 : val_main_v71 (F := Ideal) q k (ix4 0 h i j) = val_main_v69 (F := Ideal) q k (ix3 0 h i) := by
    unfold val_main_v71 val_main_v70
    generalize val_main_v69 (F := Ideal) q k = y
    pointwise
  rw [val_main_v73_apply, val_main_v72_apply, e1, ra_peak Q K q k hq hk, ra_score Q K q k hq hk]
  exact (congrArg Ideal.exp (EReal.coe_sub _ _).symm).trans (Ideal.exp_coe _)

theorem ra_total (h : Fin 16) (i : Fin 2048) :
    val_main_v74 (F := Ideal) q k (ix3 0 h i) = (((∑ j, Real.exp (score Q K h i j - peak Q K h i) : ℝ)) : EReal) := by
  unfold val_main_v74 val_main_cst_25
  have e := ra_exp Q K q k hq hk h i
  generalize val_main_v73 (F := Ideal) q k = y at e ⊢
  pointwise
  simp only [e, ← coe_sum]
  try simp

theorem ra_weight (h : Fin 16) (i j : Fin 2048) :
    val_main_v77 (F := Ideal) q k (ix4 0 h i j)
      = ((Real.exp (score Q K h i j - peak Q K h i) / ∑ j, Real.exp (score Q K h i j - peak Q K h i) : ℝ) : EReal) := by
  have e1 : val_main_v76 (F := Ideal) q k (ix4 0 h i j) = val_main_v74 (F := Ideal) q k (ix3 0 h i) := by
    unfold val_main_v76 val_main_v75
    generalize val_main_v74 (F := Ideal) q k = y
    pointwise
  rw [val_main_v77_apply, e1, ra_total Q K q k hq hk, ra_exp Q K q k hq hk]
  exact div_real _ (Finset.sum_pos (fun j _ => Real.exp_pos _) univ_nonempty).ne'

include hv

/-- The reference's result. -/
theorem ra_out (h : Fin 16) (i : Fin 2048) (d : Fin 64) :
    val_main_v78 (F := Ideal) q k v (ix4 0 h i d) = out Q K V h i d := by
  unfold val_main_v78
  have e := ra_weight Q K q k hq hk h i
  have e' := fun j => rv_rec V v hv h j d
  generalize val_main_v77 (F := Ideal) q k = y at e ⊢
  generalize val_main_v63 (F := Ideal) v = z at e' ⊢
  pointwise
  simp only [e, e']
  exact shift_free (score Q K h i) (fun j => vRec V h j d) _

end SparseKV
-- ==== Proof.Finite.lean ====
/- The precondition read back: an array whose entries' magnitudes are all below infinity holds real numbers. -/
module

public import proofs.«01_k».proof.Defs
public import proofs.«01_k».proof.Proof.Head

@[expose] public section

set_option maxRecDepth 16384

noncomputable section

namespace SparseKV

open Finset Idealize.ShloMosaic Cert.Pre_finite_scores
open Idealize.ShloMosaic.TcCoe

/-- The precondition's shape relations. -/
theorem pre_facts : Cert.Pre_finite_scores.Facts where
  bcast_S_S1x16x2048x64 := by decide
  reducesTo_S1x16x2048x64_S_d0_1_2_3 := by decide
  h_S_ := by decide

/-- An extended real of magnitude below infinity is its real part. -/
theorem real_of_abs {x : EReal} (h : max x (-x) < ⊤) : x = ((x.toReal : ℝ) : EReal) := by
  refine (EReal.coe_toReal ?_ ?_).symm
  · rintro rfl; simp at h
  · rintro rfl; simp at h

theorem andi_one {a b : BitVec 1} : IntOp.andi a b = 1#1 ↔ a = 1#1 ∧ b = 1#1 := by
  revert a b; decide

/-- A conjunction over a finite family is one only where every member is. -/
theorem fold_andi {ι : Type*} (s : Finset ι) (f : ι → BitVec 1) (b : BitVec 1) (h : s.fold IntOp.andi b f = 1#1) :
    ∀ i ∈ s, f i = 1#1 := by
  classical
  induction s using Finset.induction_on with
  | empty => simp
  | insert a s ha ih =>
    rw [Finset.fold_insert ha, andi_one] at h
    intro i hi
    rcases Finset.mem_insert.1 hi with rfl | hi
    · exact h.1
    · exact ih h.2 i hi

variable [Facts]

/-- One conjunct of the precondition. -/
theorem real_of_check (a : FVec Ideal S1x16x2048x64 .f32)
    (h : Host.reduce IntOp.andi (cmpf .olt (Host.absf a) (broadcastInDim S1x16x2048x64 ![] Facts.bcast_S_S1x16x2048x64 (constant S_ .f32 0x7F800000#32)))
      (constantI S_ 1 1#1) Facts.reducesTo_S1x16x2048x64_S_d0_1_2_3 Facts.h_S_ ix0 = 1#1) (i : S1x16x2048x64.Idx) :
    a i = (((a i).toReal : ℝ) : EReal) := by
  rw [Host.reduce_eq_fold] at h
  have hi := fold_andi _ _ _ h i (mem_filter.2 ⟨mem_univ _, funext fun a => a.elim0⟩)
  refine real_of_abs ?_
  have hc : Ideal.cmp .olt (max (a i) (-(a i))) (Ideal.ofBits .f32 0x7F800000#32) = 1#1 := hi
  rw [lit_inf] at hc
  by_contra hn
  simp [Ideal.cmp, hn] at hc

/-- The precondition: the queries and the keys hold real numbers. -/
theorem real_of_pre (q k v : FVec Ideal S1x16x2048x64 .f32) (h : fn (F := Ideal) q k v = fun _ => 1#1) :
    (∀ i, q i = (((q i).toReal : ℝ) : EReal)) ∧ ∀ i, k i = (((k i).toReal : ℝ) : EReal) := by
  have h0 := congrFun h ix0
  unfold fn at h0
  obtain ⟨hq, hk⟩ := andi_one.1 h0
  exact ⟨real_of_check q hq, real_of_check k hk⟩

end SparseKV
-- ==== Proof.lean ====
/- Every claim of the certificate. The frames of the kernel come from its scheduled launches, the reference's from its
   straight-line run. The value claim joins the kernel's result, block by block, and the reference's, operation by
   operation, at one formula over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefAttend
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs from any memory, leaves its arguments and has no semaphore. -/
theorem frame_reference [Cert.ReferenceIdeal.Facts] : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The scaling literal is named the exact 1/7. -/
theorem preserves : Cert.preserves_Kernel_KernelIdeal :=
  IdealRules.named_const.statement Cert.KernelIdeal.κ "inv_qmax" .f32 0x3E124925#32 ((1 / 7 : ℝ) : EReal) rfl

/-- Under the precondition both programs leave the layer's result, computed over the real numbers that the queries and keys hold. -/
theorem algebraic : Cert.algebraic_KernelIdeal_ReferenceIdeal_pre_finite_scores (hKernelIdeal := Cert.KernelIdeal.Gen.facts)
    (hReferenceIdeal := Cert.ReferenceIdeal.Gen.facts) (hPre_finite_scores := SparseKV.pre_facts) := by
  intro m g m' g' hpre hargs
  letI := SparseKV.pre_facts
  refine ⟨fun c => Cert.KernelIdeal.Gen.W4 m g c (Proc.devRef .tc Cert.KernelIdeal.main_v5), ?_, ?_⟩
  · exact SparseKV.kernel_run m g
  · refine (θ_run Cert.ReferenceIdeal.defs _ _).mono (fun r h c => ⟨((h c).1).trans ?_, (h c).2⟩)
      (Cert.ReferenceIdeal.Value.run (F := Ideal) m' g')
    rw [Cert.ReferenceIdeal.Read.val_main_v78_eq, (hargs c).1, (hargs c).2.1, (hargs c).2.2]
    obtain ⟨hq, hk⟩ := SparseKV.real_of_pre _ _ _ (hpre c)
    have key : ∀ (a : Fin 1) (h : Fin 16) (s : Fin 2048) (d : Fin 64),
        Cert.ReferenceIdeal.Read.val_main_v78 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (ix4 a h s d)
          = Cert.KernelIdeal.Gen.W4 m g c (Proc.devRef .tc Cert.KernelIdeal.main_v5) (ix4 a h s d) := by
      intro a h s d
      obtain rfl : a = 0 := Subsingleton.elim _ _
      refine (SparseKV.ra_out _ _ (fun h s d => m ((c.tc : Thread Cert.KernelIdeal.nD Cert.KernelIdeal.τ).loc Cert.KernelIdeal.main_arg2) (ix4 0 h s d)) _ _ _ (fun h s d => hq (ix4 0 h s d)) (fun h s d => hk (ix4 0 h s d))
        (fun h s d => rfl) h s d).trans ?_
      exact (SparseKV.w4_eq m g c _ _ (fun h s d => m ((c.tc : Thread Cert.KernelIdeal.nD Cert.KernelIdeal.τ).loc Cert.KernelIdeal.main_arg2) (ix4 0 h s d)) (fun h s d => hq (ix4 0 h s d)) (fun h s d => hk (ix4 0 h s d))
        (fun h s d => rfl) h s d).symm
    funext y
    rw [← ix4_eta y]
    exact key (y 0) (y 1) (y 2) (y 3)

/-- The reference leaves its arguments where the precondition holds. -/
theorem frame_reference_pre [Cert.ReferenceIdeal.Facts] [Cert.Pre_finite_scores.Facts] :
    Cert.quiescent_ReferenceIdeal_pre_finite_scores := fun m ρ _ => frame_reference m ρ trivial

theorem claim : Cert.Claim := ⟨Cert.Kernel.Gen.facts, Cert.KernelIdeal.Gen.facts, Cert.ReferenceIdeal.Gen.facts, SparseKV.pre_facts,
  fun m ρ _ => Cert.Kernel.Gen.frame m ρ, fun m ρ _ => Cert.KernelIdeal.Gen.frame m ρ, fun m ρ _ => Cert.KernelIdeal.Gen.frame m ρ,
  frame_reference, @frame_reference_pre Cert.ReferenceIdeal.Gen.facts SparseKV.pre_facts, preserves, algebraic⟩

end Cert.Proof

end
